-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![8192, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S2048x512 .bf16) (main_arg1 : FVec F S512x32 .bf16) (main_arg2 : IVec S2048x2 32) (main_arg3 : FVec F S8x512x1024 .bf16) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_v10 : IVec S_ 1 := andi main_v4 main_v9
  let main_c_2 : IVec S_ 32 := constantI S_ 32 0#32
  let main_v11 : IVec S2048x2 32 := broadcastInDim S2048x2 ![] bcast_S_S2048x2 main_c_2
  let main_v12 : IVec S2048x2 1 := cmpi .sge main_arg2 main_v11
  let main_c_3 : IVec S_ 32 := constantI S_ 32 32#32
  let main_v13 : IVec S2048x2 32 := broadcastInDim S2048x2 ![] bcast_S_S2048x2 main_c_3
  let main_v14 : IVec S2048x2 1 := cmpi .slt main_arg2 main_v13
  let main_v15 : IVec S2048x2 1 := andi main_v12 main_v14
  let main_c_4 : IVec S_ 1 := constantI S_ 1 1#1
  let main_v16 : IVec S_ 1 := (fun x v => Host.reduce IntOp.andi x v reducesTo_S2048x2_S_d0_1 h_S_) main_v15 main_c_4
  fn_part1 (F := F) main_v10 main_v16
-- ==== Pre_routed_and_finite_ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S8192x512 .bf16) (main_arg1 : FVec F S512x32 .bf16) (main_arg2 : IVec S8192x2 32) (main_arg3 : FVec F S32x512x1024 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_v10 : IVec S_ 1 := andi main_v4 main_v9
  let main_c_2 : IVec S_ 32 := constantI S_ 32 0#32
  let main_v11 : IVec S8192x2 32 := broadcastInDim S8192x2 ![] bcast_S_S8192x2 main_c_2
  let main_v12 : IVec S8192x2 1 := cmpi .sge main_arg2 main_v11
  let main_c_3 : IVec S_ 32 := constantI S_ 32 32#32
  let main_v13 : IVec S8192x2 32 := broadcastInDim S8192x2 ![] bcast_S_S8192x2 main_c_3
  let main_v14 : IVec S8192x2 1 := cmpi .slt main_arg2 main_v13
  let main_v15 : IVec S8192x2 1 := andi main_v12 main_v14
  let main_c_4 : IVec S_ 1 := constantI S_ 1 1#1
  let main_v16 : IVec S_ 1 := (fun x v => Host.reduce IntOp.andi x v reducesTo_S8192x2_S_d0_1 h_S_) main_v15 main_c_4
  fn_part1 (F := F) main_v10 main_v16
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S4096x1024 : Shape := ⟨2, ![4096, 1024]⟩
abbrev S2048x1024 : Shape := ⟨2, ![2048, 1024]⟩
abbrev S2x1024x512 : Shape := ⟨3, ![2, 1024, 512]⟩
abbrev S2x1024x32 : Shape := ⟨3, ![2, 1024, 32]⟩
abbrev S2x1024x1024 : Shape := ⟨3, ![2, 1024, 1024]⟩
abbrev S1024x1024 : Shape := ⟨2, ![1024, 1024]⟩
abbrev S6 : Shape := ⟨1, ![6]⟩
abbrev S4 : Shape := ⟨1, ![4]⟩
abbrev S2 : Shape := ⟨1, ![2]⟩
abbrev S_ : Shape := ⟨0, ![]⟩
abbrev S2048x32 : Shape := ⟨2, ![2048, 32]⟩
abbrev S2048x1 : Shape := ⟨2, ![2048, 1]⟩
abbrev S2048 : Shape := ⟨1, ![2048]⟩
abbrev S1024x32 : Shape := ⟨2, ![1024, 32]⟩
abbrev S1x1024x32 : Shape := ⟨3, ![1, 1024, 32]⟩
abbrev S1 : Shape := ⟨1, ![1]⟩
abbrev S1x1024x512 : Shape := ⟨3, ![1, 1024, 512]⟩
abbrev S1024x512 : Shape := ⟨2, ![1024, 512]⟩
abbrev S32x8 : Shape := ⟨2, ![32, 8]⟩
abbrev S1x512x512 : Shape := ⟨3, ![1, 512, 512]⟩
abbrev S512x512 : Shape := ⟨2, ![512, 512]⟩
abbrev S1x512x32 : Shape := ⟨3, ![1, 512, 32]⟩
abbrev S512x8 : Shape := ⟨2, ![512, 8]⟩
abbrev S512x1024 : Shape := ⟨2, ![512, 1024]⟩
abbrev S512x1 : Shape := ⟨2, ![512, 1]⟩
abbrev S1x512x1024 : Shape := ⟨3, ![1, 512, 1024]⟩
abbrev S1x1024x1024 : Shape := ⟨3, ![1, 1024, 1024]⟩

abbrev nBuf : Space → Nat
  | .hbm => 6
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S8x512x1024, .bf16⟩
  | .hbm, ⟨4, _⟩ => ⟨S4096x1024, .bf16⟩
  | .hbm, ⟨5, _⟩ => ⟨S2048x1024, .f32⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S4096x1024, .bf16⟩
  | .local _ .vmem, ⟨4, _⟩ => ⟨S2048x1024, .f32⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x1024x32, .bf16⟩
  | .local _ .vmem, ⟨9, _⟩ => ⟨S2x1024x32, .bf16⟩
  | .local _ .vmem, ⟨10, _⟩ => ⟨S2x1024x32, .bf16⟩
  | .local _ .vmem, ⟨11, _⟩ => ⟨S2x1024x32, .bf16⟩
  | .local _ .vmem, ⟨12, _⟩ => ⟨S2x1024x1024, .bf16⟩
  | .local _ .vmem, ⟨13, _⟩ => ⟨S2x1024x1024, .bf16⟩
  | .local _ .vmem, ⟨14, _⟩ => ⟨S2x1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S2x1024x1024, .bf16⟩
  | .local _ .vmem, ⟨18, _⟩ => ⟨S2x1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 2 → Bool
  | ⟨0, _⟩ => false
  | ⟨1, _⟩ => true
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_31 : BitVec 32 := 1#32
  let v61 : BitVec 32 := Scalar.muli v7 c1_i32_31
  let v62 : BitVec 32 := Scalar.addi c0_i32_32 v61
  v62.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_40 : BitVec 32 := 1#32
  let v70 : BitVec 32 := Scalar.muli v7 c1_i32_40
  let v71 : BitVec 32 := Scalar.addi c0_i32_41 v70
  v71.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_48 : BitVec 32 := 1#32
  let v79 : BitVec 32 := Scalar.muli v5 c1_i32_48
  let v80 : BitVec 32 := Scalar.addi c0_i32_49 v79
  v80.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_56 : BitVec 32 := 1#32
  let v88 : BitVec 32 := Scalar.muli v5 c1_i32_56
  let v89 : BitVec 32 := Scalar.addi c0_i32_57 v88
  v89.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v97 : BitVec 32 := Scalar.muli v7 c1_i32_64
  let v98 : BitVec 32 := Scalar.addi c0_i32_65 v97
  v98.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_67 : BitVec 32 := 1#32
  let v103 : BitVec 32 := Scalar.muli v5 c1_i32_67
  let v104 : BitVec 32 := Scalar.addi c0_i32_68 v103
  v104.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_117 : BitVec 32 := 1#32
  let v145 : BitVec 32 := Scalar.muli v7 c1_i32_117
  let v146 : BitVec 32 := Scalar.addi c0_i32_118 v145
  v146.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_127 : BitVec 32 := 1#32
  let v155 : BitVec 32 := Scalar.muli v5 c1_i32_127
  let v156 : BitVec 32 := Scalar.addi c0_i32_128 v155
  v156.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_137 : BitVec 32 := 1#32
  let v165 : BitVec 32 := Scalar.muli v7 c1_i32_137
  let v166 : BitVec 32 := Scalar.addi c0_i32_138 v165
  v166.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_147 : BitVec 32 := 1#32
  let v175 : BitVec 32 := Scalar.muli v5 c1_i32_147
  let v176 : BitVec 32 := Scalar.addi c0_i32_148 v175
  v176.toNat
def k0_dev13 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_469 : BitVec 32 := 1#32
  let v818 : BitVec 32 := Scalar.muli v7 c1_i32_469
  let v819 : BitVec 32 := Scalar.addi c0_i32_470 v818
  v819.toNat
def k0_dev14 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_476 : BitVec 32 := 1#32
  let v826 : BitVec 32 := Scalar.muli v5 c1_i32_476
  let v827 : BitVec 32 := Scalar.addi c0_i32_477 v826
  v827.toNat
def k0_dev15 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_652 : BitVec 32 := 1#32
  let v1156 : BitVec 32 := Scalar.muli v7 c1_i32_652
  let v1157 : BitVec 32 := Scalar.addi c0_i32_653 v1156
  v1157.toNat
def k0_dev16 (d0 : Dev nD) : Nat :=
  let c0_i32_657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_656 : BitVec 32 := 1#32
  let v1162 : BitVec 32 := Scalar.muli v5 c1_i32_656
  let v1163 : BitVec 32 := Scalar.addi c0_i32_657 v1162
  v1163.toNat
def k0_dev17 (d0 : Dev nD) : Nat :=
  let c0_i32_932_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_931_r0 : BitVec 32 := 1#32
  let v1565_r0 : BitVec 32 := Scalar.muli v5 c1_i32_931_r0
  let v1566_r0 : BitVec 32 := Scalar.addi c0_i32_932_r0 v1565_r0
  v1566_r0.toNat
def k0_dev18 (d0 : Dev nD) : Nat :=
  let c0_i32_935_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_934_r0 : BitVec 32 := 1#32
  let v1567_r0 : BitVec 32 := Scalar.muli v7 c1_i32_934_r0
  let v1568_r0 : BitVec 32 := Scalar.addi c0_i32_935_r0 v1567_r0
  v1568_r0.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S1 : Shape := ⟨1, ![1]⟩
abbrev S1x1x1 : Shape := ⟨3, ![1, 1, 1]⟩
abbrev S8192x512x1024 : Shape := ⟨3, ![8192, 512, 1024]⟩
abbrev S8192x1024 : Shape := ⟨2, ![8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x32, .bf16⟩
  | .hbm, ⟨2, _⟩ => ⟨S8192x2, .i32⟩
  | .hbm, ⟨3, _⟩ => ⟨S32x512x1024, .bf16⟩
  | .hbm, ⟨4, _⟩ => ⟨S8192x512, .f32⟩
  | .hbm, ⟨5, _⟩ => ⟨S32x512x1024, .f32⟩
  | .hbm, ⟨6, _⟩ => ⟨S512x32, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S_, .i32⟩
  | .hbm, ⟨20, _⟩ => ⟨S8192x2, .i32⟩
  | .hbm, ⟨21, _⟩ => ⟨S8192x2, .i1⟩
  | .hbm, ⟨22, _⟩ => ⟨S_, .i32⟩
  | .hbm, ⟨23, _⟩ => ⟨S8192x2, .i32⟩
  | .hbm, ⟨24, _⟩ => ⟨S8192x2, .i32⟩
  | .hbm, ⟨25, _⟩ => ⟨S8192x2, .i32⟩
  | .hbm, ⟨26, _⟩ => ⟨S8192x2x1, .i32⟩
  | .hbm, ⟨27, _⟩ => ⟨S1, .i32⟩
  | .hbm, ⟨28, _⟩ => ⟨S_, .i32⟩
  | .hbm, ⟨29, _⟩ => ⟨S8192x2x1, .i32⟩
  | .hbm, ⟨30, _⟩ => ⟨S8192x2x1, .i1⟩
  | .hbm, ⟨31, _⟩ => ⟨S1x1x1, .i32⟩
  | .hbm, ⟨32, _⟩ => ⟨S8192x2x1, .i32⟩
  | .hbm, ⟨33, _⟩ => ⟨S8192x2x1, .i1⟩
  | .hbm, ⟨34, _⟩ => ⟨S8192x2x1, .i1⟩
  | .hbm, ⟨35, _⟩ => ⟨S_, .i1⟩
  | .hbm, ⟨36, _⟩ => ⟨S8192x2, .i1⟩
  | .hbm, ⟨37, _⟩ => ⟨S8192x2, .f32⟩
  | .hbm, ⟨38, _⟩ => ⟨S_, .f32⟩
  | .hbm, ⟨39, _⟩ => ⟨S8192x2, .f32⟩
  | .hbm, ⟨40, _⟩ => ⟨S8192x2, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x512x1024, .f32⟩
  | .hbm, ⟨55, _⟩ => ⟨S8192x1024, .f32⟩
  | .hbm, ⟨56, _⟩ => ⟨S8192x1, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x512x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.KI.Vals.lean ====
/-
What the kernel computes, as functions of the devices' blocks: the gates of a device's tokens, the contribution of a device's experts to a
block of tokens, and the sums the copies carry.
-/
module

public import proofs.«01_k».proof.Proof.Gen.KernelIdeal
public import proofs.«01_k».proof.Proof.Gen.KernelIdeal.Skeleton
public import Idealize.ShloMosaic.Lib.Tactic
public import Idealize.ShloMosaic.Lib.ValueIdxCore

@[expose] public section

set_option maxRecDepth 16384

noncomputable section

namespace Cert.KernelIdeal.Moe

open Idealize.ShloMosaic
open Idealize.ShloMosaic.TcCoe
open Idealize.ShloMosaic.ValueIdx
open Cert.KernelIdeal Cert.KernelIdeal.Gen

variable {F : FTy → Type} [FloatOps F]

/-- The right neighbour, the left one, and the opposite device on the ring of four. -/
def rt (c : Dev nD) : Dev nD := ⟨(c.val + 1) % 4, Nat.mod_lt _ (by decide)⟩
/-- The left neighbour. -/
def lf (c : Dev nD) : Dev nD := ⟨(c.val + 3) % 4, Nat.mod_lt _ (by decide)⟩
/-- The opposite device. -/
def opp (c : Dev nD) : Dev nD := ⟨(c.val + 2) % 4, Nat.mod_lt _ (by decide)⟩

/-- The right neighbour of the left neighbour is the device. -/
theorem rt_lf (c : Dev nD) : rt (lf c) = c := by revert c; decide
/-- The left neighbour of the right neighbour is the device. -/
theorem lf_rt (c : Dev nD) : lf (rt c) = c := by revert c; decide
/-- Two steps right is the opposite device. -/
theorem rt_rt (c : Dev nD) : rt (rt c) = opp c := by revert c; decide
/-- Two steps left is the opposite device. -/
theorem lf_lf (c : Dev nD) : lf (lf c) = opp c := by revert c; decide
/-- Opposite of the right neighbour is the left neighbour. -/
theorem opp_rt (c : Dev nD) : opp (rt c) = lf c := by revert c; decide
/-- Opposite of the left neighbour is the right neighbour. -/
theorem opp_lf (c : Dev nD) : opp (lf c) = rt c := by revert c; decide

/-- The blocks the four devices hold: tokens, router, the two experts of each token, the eight experts' matrices one above the other. -/
structure Inp (F : FTy → Type) where
  x : Dev nD → Vec F S2048x512 .bf16
  rw : Dev nD → Vec F S512x32 .bf16
  ix : Dev nD → Vec F S2048x2 .i32
  ew : Dev nD → Vec F S4096x1024 .bf16

/-- Adding one expert's part: the tokens times the expert's gate, times the expert's matrix. -/
def step (xq : FVec F S512x512 .bf16) (col : FVec F S512x1 .f32) (e : FVec F S512x1024 .bf16) (a : FVec F S512x1024 .f32) : FVec F S512x1024 .f32 :=
  addf a (matmul dot_S512x512_S512x1024_S512x1024_1_0_0_1_n_n none
    (mulf xq (broadcastTo S512x512 (truncf .bf16 col bitsLt_bf16_f32) broadcasts_S512x1_S512x512))
    (shapeCast S512x1024 e shapeCasts_S512x1024_S512x1024) (constant S512x1024 .f32 0x00000000#32))

/-- The eight experts' parts of a tile of 512 tokens, added up in order. -/
def tile (sel : FVec F S32x8 .bf16) (e : Fin 8 → FVec F S512x1024 .bf16) (xq : FVec F S512x512 .bf16) (wq : FVec F S512x32 .bf16) : FVec F S512x1024 .f32 :=
  let g : FVec F S512x8 .f32 := matmul dot_S512x32_S32x8_S512x8_1_0_0_1_n_n none wq sel (constant S512x8 .f32 0x00000000#32)
  step xq (extractStridedSlice S512x1 ![0, 7] g slices_S512x8_o0_7_S512x1) (e 7) <|
  step xq (extractStridedSlice S512x1 ![0, 6] g slices_S512x8_o0_6_S512x1) (e 6) <|
  step xq (extractStridedSlice S512x1 ![0, 5] g slices_S512x8_o0_5_S512x1) (e 5) <|
  step xq (extractStridedSlice S512x1 ![0, 4] g slices_S512x8_o0_4_S512x1) (e 4) <|
  step xq (extractStridedSlice S512x1 ![0, 3] g slices_S512x8_o0_3_S512x1) (e 3) <|
  step xq (extractStridedSlice S512x1 ![0, 2] g slices_S512x8_o0_2_S512x1) (e 2) <|
  step xq (extractStridedSlice S512x1 ![0, 1] g slices_S512x8_o0_1_S512x1) (e 1) <|
  step xq (extractStridedSlice S512x1 ![0, 0] g slices_S512x8_o0_0_S512x1) (e 0) <|
  broadcast S512x1024 (Scalar.ofBits .f32 0x00000000#32)

/-- The e-th expert's matrix out of the eight. -/
def eTile (ew : Vec F S4096x1024 .bf16) (k : Fin 8) : FVec F S512x1024 .bf16 :=
  fun j => ew (ix2 (⟨512 * k.val + (j 0).val, by have := (j 0).isLt; have := k.isLt; simp at *; omega⟩ : Fin 4096) (j 1))

/-- Rows 512 t .. 512 t + 511 of half h of a block of tokens, and of gates. -/
def cutX (X : Vec F S2x1024x512 .bf16) (h t : Fin 2) : FVec F S1x512x512 .bf16 :=
  fun j => X (ix3 h (⟨512 * t.val + (j 1).val, by have := (j 1).isLt; have := t.isLt; simp at *; omega⟩ : Fin 1024) (j 2))
/-- A tile of 512 rows of a block of gates. -/
def cutW (W : Vec F S2x1024x32 .bf16) (h t : Fin 2) : FVec F S1x512x32 .bf16 :=
  fun j => W (ix3 h (⟨512 * t.val + (j 1).val, by have := (j 1).isLt; have := t.isLt; simp at *; omega⟩ : Fin 1024) (j 2))

/-- One tile of a contribution, as it is stored. -/
def contribTile (sel : FVec F S32x8 .bf16) (ew : Vec F S4096x1024 .bf16) (X : Vec F S2x1024x512 .bf16) (W : Vec F S2x1024x32 .bf16) (h t : Fin 2) :
    FVec F S1x512x1024 .bf16 :=
  shapeCast S1x512x1024 (truncf .bf16 (tile sel (eTile ew) (shapeCast S512x512 (cutX X h t) shapeCasts_S1x512x512_S512x512)
    (shapeCast S512x32 (cutW W h t) shapeCasts_S1x512x32_S512x32)) bitsLt_bf16_f32) shapeCasts_S512x1024_S1x512x1024

/-- What the eight experts of a device add for two blocks of 1024 tokens, in the working precision. -/
def contrib (sel : FVec F S32x8 .bf16) (ew : Vec F S4096x1024 .bf16) (X : Vec F S2x1024x512 .bf16) (W : Vec F S2x1024x32 .bf16) : Vec F S2x1024x1024 .bf16 :=
  fun i => contribTile sel ew X W (i 0) (⟨(i 1).val / 512, by have := (i 1).isLt; simp at *; omega⟩ : Fin 2)
    (ix3 (0 : Fin 1) (⟨(i 1).val % 512, Nat.mod_lt _ (by decide)⟩ : Fin 512) (i 2))

/-- Rows 512 t .. 512 t + 511 of the device's own tokens. -/
def cutOwn (x : Vec F S2048x512 .bf16) (h t : Fin 2) : FVec F S512x512 .bf16 :=
  fun j => x (ix2 (⟨1024 * h.val + 512 * t.val + (j 0).val, by have := (j 0).isLt; have := h.isLt; have := t.isLt; simp at *; omega⟩ : Fin 2048) (j 1))

/-- One tile of what a device's experts add for its own tokens, in single precision. -/
def selfTile (sel : FVec F S32x8 .bf16) (ew : Vec F S4096x1024 .bf16) (x : Vec F S2048x512 .bf16) (W : Vec F S2x1024x32 .bf16) (h t : Fin 2) : FVec F S512x1024 .f32 :=
  tile sel (eTile ew) (shapeCast S512x512 (cutOwn x h t) shapeCasts_S512x512_S512x512) (shapeCast S512x32 (cutW W h t) shapeCasts_S1x512x32_S512x32)

/-- A device's products for its own tokens. -/
def selfOut (sel : FVec F S32x8 .bf16) (ew : Vec F S4096x1024 .bf16) (x : Vec F S2048x512 .bf16) (W : Vec F S2x1024x32 .bf16) : Vec F S2048x1024 .f32 :=
  fun i => selfTile sel ew x W (⟨(i 0).val / 1024, by have := (i 0).isLt; simp at *; omega⟩ : Fin 2)
    (⟨(i 0).val % 1024 / 512, by have := Nat.mod_lt (i 0).val (show 0 < 1024 by decide); omega⟩ : Fin 2)
    (ix2 (⟨(i 0).val % 512, Nat.mod_lt _ (by decide)⟩ : Fin 512) (i 1))

/-- A block of two halves read row by row. -/
def rows {e : EltTy} {n : ℕ} (X : (⟨3, ![2, 1024, n]⟩ : Shape).Idx → Elt F e) : (⟨2, ![2048, n]⟩ : Shape).Idx → Elt F e :=
  fun i => X (ix3 (⟨(i 0).val / 1024, by have := (i 0).isLt; simp at *; omega⟩ : Fin 2) (⟨(i 0).val % 1024, Nat.mod_lt _ (by decide)⟩ : Fin 1024) (i 1))

/-- Half h of a block of two halves. -/
def half {e : EltTy} {n : ℕ} (X : (⟨3, ![2, 1024, n]⟩ : Shape).Idx → Elt F e) (h : Fin 2) : (⟨2, ![1024, n]⟩ : Shape).Idx → Elt F e :=
  fun i => X (ix3 h (i 0) (i 1))

namespace Inp

variable (I : Inp F)

/-- The one-hot selection of device d's eight experts out of the 32. -/
def sel (d : Dev nD) : FVec F S32x8 .bf16 := k0_pay8 (Scalar.remsi (Scalar.divsi (Dev.word d) 1#32) 4#32)

/-- Device d's tokens as two blocks of 1024. -/
def xb (d : Dev nD) : Vec F S2x1024x512 .bf16 :=
  fun i => I.x d (ix2 (⟨1024 * (i 0).val + (i 1).val, by have := (i 0).isLt; have := (i 1).isLt; simp at *; omega⟩ : Fin 2048) (i 2))

/-- A column of the two experts of each token. -/
def col (d : Dev nD) (k : Fin 2) : Vec F S2048x1 .i32 := fun j => I.ix d (ix2 (j 0) k)

/-- The gates of device d's tokens over the 32 experts. -/
def gate (d : Dev nD) : FVec F S2048x32 .bf16 :=
  k0_pay5 (k0_pay1 (I.x d) (I.rw d)) (k0_pay2 (I.col d 0)) (k0_pay3 (I.col d 1)) (k0_pay4 (I.x d) (I.rw d) (I.col d 0))

/-- The gates as two blocks of 1024 tokens. -/
def w (d : Dev nD) : Vec F S2x1024x32 .bf16 :=
  fun i => I.gate d (ix2 (⟨1024 * (i 0).val + (i 1).val, by have := (i 0).isLt; have := (i 1).isLt; simp at *; omega⟩ : Fin 2048) (i 2))

/-- What device d's experts add for the opposite, the right and the left device's tokens. -/
def co (d : Dev nD) : Vec F S2x1024x1024 .bf16 := contrib (sel d) (I.ew d) (I.xb (opp d)) (I.w (opp d))
/-- Device d's contribution to its right neighbour's tokens. -/
def cr (d : Dev nD) : Vec F S2x1024x1024 .bf16 := contrib (sel d) (I.ew d) (I.xb (rt d)) (I.w (rt d))
/-- Device d's contribution to its left neighbour's tokens. -/
def cl (d : Dev nD) : Vec F S2x1024x1024 .bf16 := contrib (sel d) (I.ew d) (I.xb (lf d)) (I.w (lf d))

/-- What arrives at d from the left and from the right for passing on. -/
def hl (d : Dev nD) : Vec F S1024x1024 .bf16 := half (I.co (lf d)) 0
/-- What arrives at d from the right for passing on. -/
def hr (d : Dev nD) : Vec F S1024x1024 .bf16 := half (I.co (rt d)) 1

/-- What d passes on to the right and to the left: its own contribution, with what arrived added to one half. -/
def crF (d : Dev nD) : Vec F S2x1024x1024 .bf16 :=
  fun i => if (i 0).val = 0 then addf (half (I.cr d) 0) (I.hl d) (ix2 (i 1) (i 2)) else I.cr d i
/-- What d passes on to the left: its own contribution, with what arrived added to one half. -/
def clF (d : Dev nD) : Vec F S2x1024x1024 .bf16 :=
  fun i => if (i 0).val = 1 then addf (half (I.cl d) 1) (I.hr d) (ix2 (i 1) (i 2)) else I.cl d i

/-- Device d's own part of its result, and the whole result. -/
def own (d : Dev nD) : Vec F S2048x1024 .f32 := selfOut (sel d) (I.ew d) (I.x d) (I.w d)
/-- Device d's result. -/
def out (d : Dev nD) : Vec F S2048x1024 .f32 :=
  addf (addf (I.own d) (extf .f32 (rows (I.crF (lf d)) : FVec F S2048x1024 .bf16) bitsLt_bf16_f32)) (extf .f32 (rows (I.clF (rt d)) : FVec F S2048x1024 .bf16) bitsLt_bf16_f32)

end Inp

end Cert.KernelIdeal.Moe
-- ==== Proof.KI.Base.lean ====
/-
The protocol of the kernel's remote steps: which semaphore cell each copy and each signal pays, what the payment hands over, what a core
owes at the start, and in which order the cells are waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.KI.Vals
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra: the pipeline's rounds and the kernel's own -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The buffers and their halves -/

abbrev xM : Memref sig .tc .vmem S2048x512 .bf16 := Memref.whole cc0_stg0_0
abbrev rwM : Memref sig .tc .vmem S512x32 .bf16 := Memref.whole cc0_stg1_0
abbrev ixM : Memref sig .tc .vmem S2048x2 .i32 := Memref.whole cc0_stg2_0
abbrev ewM : Memref sig .tc .vmem S4096x1024 .bf16 := Memref.whole cc0_stg3_0
abbrev outM : Memref sig .tc .vmem S2048x1024 .f32 := Memref.whole cc0_stg4_0
abbrev xlM : Memref sig .tc .vmem S2x1024x512 .bf16 := Memref.whole cc0_scratch0
abbrev xrM : Memref sig .tc .vmem S2x1024x512 .bf16 := Memref.whole cc0_scratch1
abbrev xoM : Memref sig .tc .vmem S2x1024x512 .bf16 := Memref.whole cc0_scratch2
abbrev wsM : Memref sig .tc .vmem S2x1024x32 .bf16 := Memref.whole cc0_scratch3
abbrev wlM : Memref sig .tc .vmem S2x1024x32 .bf16 := Memref.whole cc0_scratch4
abbrev wrM : Memref sig .tc .vmem S2x1024x32 .bf16 := Memref.whole cc0_scratch5
abbrev woM : Memref sig .tc .vmem S2x1024x32 .bf16 := Memref.whole cc0_scratch6
abbrev coM : Memref sig .tc .vmem S2x1024x1024 .bf16 := Memref.whole cc0_scratch7
abbrev crM : Memref sig .tc .vmem S2x1024x1024 .bf16 := Memref.whole cc0_scratch8
abbrev clM : Memref sig .tc .vmem S2x1024x1024 .bf16 := Memref.whole cc0_scratch9
abbrev hlM : Memref sig .tc .vmem S1024x1024 .bf16 := Memref.whole cc0_scratch10
abbrev hrM : Memref sig .tc .vmem S1024x1024 .bf16 := Memref.whole cc0_scratch11
abbrev rlM : Memref sig .tc .vmem S2x1024x1024 .bf16 := Memref.whole cc0_scratch12
abbrev rrM : Memref sig .tc .vmem S2x1024x1024 .bf16 := Memref.whole cc0_scratch13

/-- The lower and the upper 1024 rows of the token block. -/
abbrev xLo : Memref sig .tc .vmem S1024x512 .bf16 := xM.slice (Rect.unit (s := S2048x512) ![0, 0] S1024x512.size inb_S2048x512_S1024x512_0_0) (fun _ => rfl)
abbrev xHi : Memref sig .tc .vmem S1024x512 .bf16 := xM.slice (Rect.unit (s := S2048x512) ![1024, 0] S1024x512.size inb_S2048x512_S1024x512_1024_0) (fun _ => rfl)

/-- The two halves of a buffer of two blocks of tokens. -/
abbrev x0 (M : Memref sig .tc .vmem S2x1024x512 .bf16) : Memref sig .tc .vmem S1024x512 .bf16 :=
  (M.slice (Rect.unit (s := S2x1024x512) ![0, 0, 0] S1x1024x512.size inb_S2x1024x512_S1x1024x512_0_0_0) (fun _ => rfl)).squeeze S1024x512 squeezes_S1x1024x512_S1024x512
abbrev x1 (M : Memref sig .tc .vmem S2x1024x512 .bf16) : Memref sig .tc .vmem S1024x512 .bf16 :=
  (M.slice (Rect.unit (s := S2x1024x512) ![1, 0, 0] S1x1024x512.size inb_S2x1024x512_S1x1024x512_1_0_0) (fun _ => rfl)).squeeze S1024x512 squeezes_S1x1024x512_S1024x512
/-- The two halves of a buffer of two blocks of gates. -/
abbrev w0 (M : Memref sig .tc .vmem S2x1024x32 .bf16) : Memref sig .tc .vmem S1024x32 .bf16 :=
  (M.slice (Rect.unit (s := S2x1024x32) ![0, 0, 0] S1x1024x32.size inb_S2x1024x32_S1x1024x32_0_0_0) (fun _ => rfl)).squeeze S1024x32 squeezes_S1x1024x32_S1024x32
abbrev w1 (M : Memref sig .tc .vmem S2x1024x32 .bf16) : Memref sig .tc .vmem S1024x32 .bf16 :=
  (M.slice (Rect.unit (s := S2x1024x32) ![1, 0, 0] S1x1024x32.size inb_S2x1024x32_S1x1024x32_1_0_0) (fun _ => rfl)).squeeze S1024x32 squeezes_S1x1024x32_S1024x32
/-- The two halves of a buffer of two blocks of partial results. -/
abbrev c0 (M : Memref sig .tc .vmem S2x1024x1024 .bf16) : Memref sig .tc .vmem S1024x1024 .bf16 :=
  (M.slice (Rect.unit (s := S2x1024x1024) ![0, 0, 0] S1x1024x1024.size inb_S2x1024x1024_S1x1024x1024_0_0_0) (fun _ => rfl)).squeeze S1024x1024 squeezes_S1x1024x1024_S1024x1024
abbrev c1 (M : Memref sig .tc .vmem S2x1024x1024 .bf16) : Memref sig .tc .vmem S1024x1024 .bf16 :=
  (M.slice (Rect.unit (s := S2x1024x1024) ![1, 0, 0] S1x1024x1024.size inb_S2x1024x1024_S1x1024x1024_1_0_0) (fun _ => rfl)).squeeze S1024x1024 squeezes_S1x1024x1024_S1024x1024

/-- A memref's own elements on device c, at share q and contents f. -/
abbrev mpt {s : Shape} {e : EltTy} (M : Memref sig .tc .vmem s e) (c : Dev nD) (q : PosShare TreeShare) (f : Buf (Elt F) (M.view.loc (c : Thread nD τ))) : sProp 𝕄 :=
  M.view.loc (c : Thread nD τ) ↦[M.view.set]{q} f

/-- A memref's own elements on device c, whole, at contents not named. -/
def mAny {s : Shape} {e : EltTy} (M : Memref sig .tc .vmem s e) (c : Dev nD) : sProp 𝕄 :=
  iprop(∃ f : Buf (Elt F) (M.view.loc (c : Thread nD τ)), mpt M c fullShare f)

instance {s : Shape} {e : EltTy} (M : Memref sig .tc .vmem s e) (c : Dev nD) : BI.Storable (upEmb : UEmb _ 𝕄) (mAny (F := F) M c) := by
  unfold mAny; infer_instance

abbrev qL : PosShare TreeShare := fullShare.left
abbrev qR : PosShare TreeShare := fullShare.right

/-! ## The cells -/

abbrev barCell (c : Dev nD) : GSem nD τ sig := ((c : Thread nD τ), .reg barrier0)
abbrev endCell (c : Dev nD) : GSem nD τ sig := ((c : Thread nD τ), .reg (1 : Sem sig))
abbrev dCell (c : Dev nD) (n : DmaSem sig) : GSem nD τ sig := ((c : Thread nD τ), .dma n)

/-- The kernel's own semaphores: its 28 DMA semaphores, then the one of the closing barrier. -/
def osem (k : Fin 29) : SemLoc sig := if h : k.val < 28 then .dma (⟨5 + k.val, by show 5 + k.val < 33; omega⟩ : DmaSem sig) else .reg (1 : Sem sig)

/-- The cells of one device that a scratch allocation of the kernel owns. -/
abbrev oCell (c : Dev nD) (k : Fin 29) : GSem nD τ sig := ((c : Thread nD τ), osem k)

/-- Round 0 of every cell of device c's own semaphores is open. -/
def reachedAll (c : Dev nD) : sProp 𝕄 := bigSep Finset.univ fun k : Fin 29 => reached ER (oCell c k) 0

instance (c : Dev nD) : BI.Persistent (reachedAll (F := F) c) := by unfold reachedAll; infer_instance

/-- How many units one copy pays, by the number of its semaphore. -/
def amtOf (n : ℕ) : ℕ :=
  match n with
  | 5 | 6 | 7 | 8 | 11 | 12 | 13 | 14 | 17 | 18 | 21 | 22 => (x0 xlM).view.dmaCredit
  | 9 | 10 | 15 | 16 => wlM.view.dmaCredit
  | 19 | 20 | 23 | 24 => (w0 wlM).view.dmaCredit
  | 25 | 26 | 27 | 28 => hlM.view.dmaCredit
  | _ => rlM.view.dmaCredit

/-- Every copy is worth something. -/
theorem amtOf_pos (n : ℕ) : 0 < amtOf n := by
  unfold amtOf; split <;> exact View.dmaCredit_pos _ (by decide)

/-! ## What each payment hands over -/

variable (I : Inp F)

/-- Paid to a DMA cell of device c, by the number of the semaphore: the source back (5–10, 17–20, 25, 26, 29, 30), or the landed block. -/
def dmaPay (c : Dev nD) (n : ℕ) : sProp 𝕄 :=
  match n with
  | 5 => mpt xLo c qR.left (I.x c)
  | 6 => mpt xHi c qR.left (I.x c)
  | 7 => mpt xLo c qR.right (I.x c)
  | 8 => mpt xHi c qR.right (I.x c)
  | 9 => mpt wsM c qR.left (I.w c)
  | 10 => mpt wsM c qR.right (I.w c)
  | 11 => mpt (x0 xlM) c fullShare (I.xb (lf c))
  | 12 => mpt (x1 xlM) c fullShare (I.xb (lf c))
  | 13 => mpt (x0 xrM) c fullShare (I.xb (rt c))
  | 14 => mpt (x1 xrM) c fullShare (I.xb (rt c))
  | 15 => mpt wlM c fullShare (I.w (lf c))
  | 16 => mpt wrM c fullShare (I.w (rt c))
  | 17 => mpt (x0 xlM) c qR (I.xb (lf c))
  | 18 => mpt (x1 xrM) c qR (I.xb (rt c))
  | 19 => mpt (w0 wlM) c qR (I.w (lf c))
  | 20 => mpt (w1 wrM) c qR (I.w (rt c))
  | 21 => mpt (x0 xoM) c fullShare (I.xb (opp c))
  | 22 => mpt (x1 xoM) c fullShare (I.xb (opp c))
  | 23 => mpt (w0 woM) c fullShare (I.w (opp c))
  | 24 => mpt (w1 woM) c fullShare (I.w (opp c))
  | 25 => mpt (c0 coM) c fullShare (I.co c)
  | 26 => mpt (c1 coM) c fullShare (I.co c)
  | 27 => mpt hlM c fullShare (I.hl c)
  | 28 => mpt hrM c fullShare (I.hr c)
  | 29 => mpt crM c fullShare (I.crF c)
  | 30 => mpt clM c fullShare (I.clF c)
  | 31 => mpt rlM c fullShare (I.crF (lf c))
  | _ => mpt rrM c fullShare (I.clF (rt c))

instance (c : Dev nD) (n : ℕ) : BI.Storable (upEmb : UEmb _ 𝕄) (dmaPay I c n) := by
  unfold dmaPay; split <;> infer_instance

/-- Paid to a barrier cell by the device a, whose right side the receiver's copies land from the left: the landing buffers for rightward copies. -/
def giveL (a : Dev nD) : sProp 𝕄 :=
  iprop(mAny (x0 xlM) a ∗ mAny (x1 xlM) a ∗ mAny wlM a ∗ mAny (x0 xoM) a ∗ mAny (w0 woM) a ∗ mAny hlM a ∗ mAny rlM a ∗ reachedAll a)
/-- The landing buffers of device a for leftward copies. -/
def giveR (a : Dev nD) : sProp 𝕄 :=
  iprop(mAny (x0 xrM) a ∗ mAny (x1 xrM) a ∗ mAny wrM a ∗ mAny (x1 xoM) a ∗ mAny (w1 woM) a ∗ mAny hrM a ∗ mAny rrM a ∗ reachedAll a)

instance (c : Dev nD) : BI.Storable (upEmb : UEmb _ 𝕄) (reachedAll (F := F) c) := by unfold reachedAll; infer_instance
instance (c : Dev nD) : BI.Storable (upEmb : UEmb _ 𝕄) (giveL (F := F) c) := by unfold giveL; infer_instance
instance (c : Dev nD) : BI.Storable (upEmb : UEmb _ 𝕄) (giveR (F := F) c) := by unfold giveR; infer_instance

/-- Every cell has one round. On the two regular semaphores two duties, the right neighbour's (true) and the left one's (false), one unit
    each; on each of the kernel's DMA semaphores one duty, the copy. -/
def Rd : Rounds.Schedule (GSem nD τ sig) Bool 𝕄 where
  duties g r := if r = 0 ∧ g.1.2 = .tc then (match g.2 with | .reg _ => {false, true} | .dma n => if 5 ≤ n.val then {false} else ∅) else ∅
  unitless _ := False
  amount g _ _ := match g.2 with | .reg _ => 1 | .dma n => amtOf n.val
  payload g _ d := match g.2 with
    | .reg s => if s.val = 0 then (if d then giveL (rt g.1.1) else giveR (lf g.1.1)) else iprop(emp)
    | .dma n => dmaPay I g.1.1 n.val
  amount_pos g _ _ _ := by
    rcases g.2 with s | n
    · exact Nat.one_pos
    · exact amtOf_pos _

instance Rd_payload_storable (g : GSem nD τ sig) (r : ℕ) (d : Bool) : BI.Storable (upEmb : UEmb _ 𝕄) ((Rd I).payload g r d) := by
  rcases g with ⟨t, s | n⟩
  · show BI.Storable upEmb (if s.val = 0 then (if d then giveL (rt t.1) else giveR (lf t.1)) else iprop(emp))
    (repeat' split) <;> infer_instance
  · show BI.Storable upEmb (dmaPay I t.1 n.val)
    infer_instance

section Tables

variable (c : Dev nD)

/-- A barrier counter is paid by both neighbours. -/
theorem duties_reg (s : Sem sig) : (Rd I).duties ((c : Thread nD τ), .reg s) 0 = {false, true} := rfl
/-- A copy's counter has one payment. -/
theorem duties_dma (n : DmaSem sig) (h : 5 ≤ n.val) : (Rd I).duties (dCell c n) 0 = {false} := by
  dsimp only [Rd]; rw [if_pos ⟨rfl, rfl⟩, if_pos h]
/-- No counter has a payment after the first round. -/
theorem duties_later (g : GSem nD τ sig) : ∀ r, 1 ≤ r → (Rd I).duties g r = ∅ :=
  fun r hr => if_neg (fun h => by omega)
/-- Each payment of a barrier counter is one. -/
theorem amount_reg (s : Sem sig) (d : Bool) : (Rd I).amount ((c : Thread nD τ), .reg s) 0 d = 1 := rfl
/-- The payment of a copy's counter is the copy's amount. -/
theorem amount_dma (n : DmaSem sig) (d : Bool) : (Rd I).amount (dCell c n) 0 d = amtOf n.val := rfl
/-- A barrier counter comes to two. -/
theorem expect_reg (s : Sem sig) : (Rd I).expect ((c : Thread nD τ), .reg s) 0 = 2 := by
  unfold Schedule.expect Schedule.amountOf; rw [duties_reg]; rfl
/-- A copy's counter comes to the copy's amount. -/
theorem expect_dma (n : DmaSem sig) (h : 5 ≤ n.val) : (Rd I).expect (dCell c n) 0 = amtOf n.val := by
  unfold Schedule.expect Schedule.amountOf; rw [duties_dma I c n h, Finset.sum_singleton]; rfl
/-- What a copy's payment hands over. -/
theorem payload_dma (n : DmaSem sig) (d : Bool) : (Rd I).payload (dCell c n) 0 d = dmaPay I c n.val := rfl
/-- What a wait on a copy's counter collects. -/
theorem rest_dma (n : DmaSem sig) (h : 5 ≤ n.val) :
    bigSep ((Rd I).duties (dCell c n) 0 \ ∅) (fun d => (Rd I).payload (dCell c n) 0 d) = dmaPay I c n.val := by
  rw [Finset.sdiff_empty, duties_dma I c n h, bigSep_singleton]; rfl
/-- What the wait on the opening barrier collects: the right and the left neighbour's landing buffers. -/
theorem rest_bar : bigSep ((Rd I).duties (barCell c) 0 \ ∅) (fun d => (Rd I).payload (barCell c) 0 d) ⊢ iprop(giveL (rt c) ∗ giveR (lf c)) := by
  rw [Finset.sdiff_empty, duties_reg I c]
  rw [BI.bigSep_erase (i := true) (by decide), show (({false, true} : Finset Bool).erase true) = {false} by decide, bigSep_singleton]
  exact .rfl

end Tables

/-! ## What a core owes, and the order of the waits -/

/-- The 18 payments device c makes, in program order: the cell and how many units. -/
def debt (c : Dev nD) (k : ℕ) : GSem nD τ sig × ℕ :=
  match k with
  | 0 => (barCell (lf c), 1)
  | 1 => (barCell (rt c), 1)
  | 2 => (dCell (rt c) 11, amtOf 11)
  | 3 => (dCell (rt c) 12, amtOf 12)
  | 4 => (dCell (lf c) 13, amtOf 13)
  | 5 => (dCell (lf c) 14, amtOf 14)
  | 6 => (dCell (rt c) 15, amtOf 15)
  | 7 => (dCell (lf c) 16, amtOf 16)
  | 8 => (dCell (rt c) 21, amtOf 21)
  | 9 => (dCell (lf c) 22, amtOf 22)
  | 10 => (dCell (rt c) 23, amtOf 23)
  | 11 => (dCell (lf c) 24, amtOf 24)
  | 12 => (dCell (rt c) 27, amtOf 27)
  | 13 => (dCell (lf c) 28, amtOf 28)
  | 14 => (dCell (rt c) 31, amtOf 31)
  | 15 => (dCell (lf c) 32, amtOf 32)
  | 16 => (endCell (lf c), 1)
  | _ => (endCell (rt c), 1)

/-- What device c still owes when r payments are left to make. -/
def owed (c : Dev nD) : ℕ → CellTallies nD τ sig Unit
  | 0 => 0
  | r + 1 => owed c r + tallyAt (debt c (17 - r)).1 () (debt c (17 - r)).2

/-- The rank of a semaphore in the order of waits. -/
def rankOf (sm : SemLoc sig) : ℕ :=
  match sm with
  | .reg s => if s.val = 0 then 1 else 6
  | .dma n => if n.val < 5 then 0 else if n.val ∈ [11, 12, 13, 14, 15, 16] then 2 else if n.val ∈ [21, 22, 23, 24] then 3
      else if n.val ∈ [27, 28] then 4 else if n.val ∈ [31, 32] then 5 else 1

/-- Every cell of a device's core has one label, every other cell none. -/
def L (g : GSem nD τ sig) : Finset Unit := if g.1.2 = .tc then {()} else ∅
/-- A cell's level is its counter's rank. -/
def lv (g : GSem nD τ sig) (_ : Unit) : ℕ := rankOf g.2

/-- A cell that is not the core's has no label. -/
theorem L_of_ne (g : GSem nD τ sig) (h : g.1.2 ≠ .tc) : L g = ∅ := if_neg h
/-- A cell of the core has its one label. -/
theorem L_tc (c : Dev nD) (sm : SemLoc sig) : L ((c : Thread nD τ), sm) = {()} := if_pos rfl

/-- Every payment goes to a core's cell. -/
theorem debt_tc (c : Dev nD) (k : ℕ) : (debt c k).1.1.2 = .tc := by unfold debt; split <;> rfl

/-- A cell device c owes something to with r payments left is the cell of one of those payments. -/
theorem owed_pos (c : Dev nD) (r : ℕ) (g : GSem nD τ sig) (u : Unit) (h : 0 < owed c r g u) : ∃ j < r, g = (debt c (17 - j)).1 := by
  induction r with
  | zero => exact absurd h (Nat.lt_irrefl 0)
  | succ r ih =>
    have h' : 0 < owed c r g u + tallyAt (debt c (17 - r)).1 () (debt c (17 - r)).2 g u := h
    rcases Nat.eq_zero_or_pos (owed c r g u) with h0 | h0
    · rw [h0, Nat.zero_add, tallyAt_apply] at h'
      by_cases hg : g = (debt c (17 - r)).1 ∧ u = ()
      · exact ⟨r, Nat.lt_succ_self r, hg.1⟩
      · rw [if_neg hg] at h'; exact absurd h' (Nat.lt_irrefl 0)
    · obtain ⟨j, hj, e⟩ := ih h0; exact ⟨j, Nat.lt_succ_of_lt hj, e⟩

/-- The rank of the cell of each payment does not depend on the device. -/
theorem rank_debt (c : Dev nD) (k : ℕ) : rankOf (debt c k).1.2 = [1, 1, 2, 2, 2, 2, 2, 2, 3, 3, 3, 3, 4, 4, 5, 5, 6].getD k 6 := by
  rcases Nat.lt_or_ge k 17 with h | h
  · interval_cases k <;> rfl
  · obtain ⟨j, rfl⟩ := Nat.exists_eq_add_of_le' h
    rfl

/-- With r payments left, a core may wait for a semaphore of rank at most b when all the payments left have a higher rank. -/
theorem mayWait_owed (c : Dev nD) (sm : SemLoc sig) (r b : ℕ) (hb : rankOf sm ≤ b)
    (hr : ∀ j < r, b < [1, 1, 2, 2, 2, 2, 2, 2, 3, 3, 3, 3, 4, 4, 5, 5, 6].getD (17 - j) 6) :
    (levAts L lv : sProp 𝕄) ⊢ MayWait (c : Thread nD τ) sm () (owed c r) :=
  MayOwe.of_cut (L := L) (lev := lv) b (fun p hp => by rw [Finset.mem_singleton.mp hp, L_tc]; exact Finset.mem_singleton_self _)
    (fun g u hg => by
      obtain ⟨j, _, rfl⟩ := owed_pos c r g u hg
      unfold L; rw [if_pos (debt_tc c _)]; exact Finset.mem_singleton_self _)
    (fun p hp => by rw [Finset.mem_singleton.mp hp]; exact hb)
    (fun g u hg => by
      obtain ⟨j, hj, rfl⟩ := owed_pos c r g u hg
      show b < rankOf (debt c (17 - j)).1.2
      rw [rank_debt]; exact hr j hj)

end Cert.KernelIdeal.Moe
-- ==== Proof.KI.Reads.lean ====
/-
What the loads read and what the stores leave: a tile of 512 rows out of each buffer, and a buffer after its tiles are stored.
-/
module

public import proofs.«01_k».proof.Proof.KI.Base
public import Idealize.ShloMosaic.Lib.Writes
public import Idealize.ShloMosaic.Lib.ValueLayout

@[expose] public section

set_option maxRecDepth 16384

noncomputable section

namespace Cert.KernelIdeal.Moe

open Idealize.ShloMosaic
open Idealize.ShloMosaic.TcCoe
open Idealize.ShloMosaic.ValueIdx
open Cert.KernelIdeal Cert.KernelIdeal.Gen

variable {F : FTy → Type} [FloatOps F]

/-- An index below one is zero. -/
theorem fin1_eq {n : ℕ} (h : n = 1) (a : Fin n) : a.val = 0 := by have := a.isLt; omega

/-- Reading 512 rows of the experts' matrices from row o. -/
theorem read_e (E : Vec F S4096x1024 .bf16) (o : ℕ) (inb) (ho : o % 512 = 0) :
    View.readAt (Elt F) ewM.view (Rect.unit (s := S4096x1024) ![o, 0] S512x1024.size inb).toLoadRect E
      = eTile E (⟨o / 512, by have : o + 512 ≤ 4096 := inb 0; omega⟩ : Fin 8) := by
  funext j
  refine congrArg E (funext fun a => ?_)
  match a with
  | 0 => exact Fin.ext (show o + 1 * (j 0).val = 512 * (o / 512) + (j 0).val by omega)
  | 1 => exact Fin.ext (show 0 + 1 * (j 1).val = (j 1).val by omega)

/-- Reading 512 rows of a half of a block of tokens. -/
theorem cutX_idx (X : Vec F S2x1024x512 .bf16) (h o : ℕ) (inb : ∀ a, (![h, o, 0] : Fin 3 → ℕ) a + S1x512x512.size a ≤ S2x1024x512.size a) (ho : o % 512 = 0) (hh : h < 2) (ht : o / 512 < 2) :
    (fun j => X ((Rect.unit (s := S2x1024x512) ![h, o, 0] S1x512x512.size inb).toLoadRect.idx j)) = cutX X ⟨h, hh⟩ ⟨o / 512, ht⟩ := by
  funext j
  refine congrArg X (funext fun a => ?_)
  match a with
  | 0 => exact Fin.ext (show h + 1 * (j 0).val = h by have := fin1_eq (n := S1x512x512.size 0) rfl (j 0); omega)
  | 1 => exact Fin.ext (show o + 1 * (j 1).val = 512 * (o / 512) + (j 1).val by omega)
  | 2 => exact Fin.ext (show 0 + 1 * (j 2).val = (j 2).val by omega)

/-- Reading 512 rows of a half of a block of gates. -/
theorem cutW_idx (X : Vec F S2x1024x32 .bf16) (h o : ℕ) (inb : ∀ a, (![h, o, 0] : Fin 3 → ℕ) a + S1x512x32.size a ≤ S2x1024x32.size a) (ho : o % 512 = 0) (hh : h < 2) (ht : o / 512 < 2) :
    (fun j => X ((Rect.unit (s := S2x1024x32) ![h, o, 0] S1x512x32.size inb).toLoadRect.idx j)) = cutW X ⟨h, hh⟩ ⟨o / 512, ht⟩ := by
  funext j
  refine congrArg X (funext fun a => ?_)
  match a with
  | 0 => exact Fin.ext (show h + 1 * (j 0).val = h by have := fin1_eq (n := S1x512x32.size 0) rfl (j 0); omega)
  | 1 => exact Fin.ext (show o + 1 * (j 1).val = 512 * (o / 512) + (j 1).val by omega)
  | 2 => exact Fin.ext (show 0 + 1 * (j 2).val = (j 2).val by omega)

section
variable (h o : ℕ)

/-- A block of one layer within two starts at layer 0 or 1. -/
theorem inb_lt {n : ℕ} {f s t : Fin 3 → ℕ} (inb : ∀ a, f a + s a ≤ t a) (h0 : s 0 = 1) (h2 : t 0 = 2) : f 0 < 2 := by have := inb 0; omega

/-- A read of the left neighbour's tokens is a cut of them. -/
theorem read_xl (X : Vec F S2x1024x512 .bf16) (inb) (ho : o % 512 = 0) :
    View.readAt (Elt F) xlM.view (Rect.unit (s := S2x1024x512) ![h, o, 0] S1x512x512.size inb).toLoadRect X
      = cutX X ⟨h, by have : h + 1 ≤ 2 := inb 0; omega⟩ ⟨o / 512, by have : o + 512 ≤ 1024 := inb 1; omega⟩ := cutX_idx X h o inb ho _ _
/-- A read of the right neighbour's tokens is a cut of them. -/
theorem read_xr (X : Vec F S2x1024x512 .bf16) (inb) (ho : o % 512 = 0) :
    View.readAt (Elt F) xrM.view (Rect.unit (s := S2x1024x512) ![h, o, 0] S1x512x512.size inb).toLoadRect X
      = cutX X ⟨h, by have : h + 1 ≤ 2 := inb 0; omega⟩ ⟨o / 512, by have : o + 512 ≤ 1024 := inb 1; omega⟩ := cutX_idx X h o inb ho _ _
/-- A read of the opposite device's tokens is a cut of them. -/
theorem read_xo (X : Vec F S2x1024x512 .bf16) (inb) (ho : o % 512 = 0) :
    View.readAt (Elt F) xoM.view (Rect.unit (s := S2x1024x512) ![h, o, 0] S1x512x512.size inb).toLoadRect X
      = cutX X ⟨h, by have : h + 1 ≤ 2 := inb 0; omega⟩ ⟨o / 512, by have : o + 512 ≤ 1024 := inb 1; omega⟩ := cutX_idx X h o inb ho _ _
/-- A read of the device's own gates is a cut of them. -/
theorem read_ws (X : Vec F S2x1024x32 .bf16) (inb) (ho : o % 512 = 0) :
    View.readAt (Elt F) wsM.view (Rect.unit (s := S2x1024x32) ![h, o, 0] S1x512x32.size inb).toLoadRect X
      = cutW X ⟨h, by have : h + 1 ≤ 2 := inb 0; omega⟩ ⟨o / 512, by have : o + 512 ≤ 1024 := inb 1; omega⟩ := cutW_idx X h o inb ho _ _
/-- A read of the left neighbour's gates is a cut of them. -/
theorem read_wl (X : Vec F S2x1024x32 .bf16) (inb) (ho : o % 512 = 0) :
    View.readAt (Elt F) wlM.view (Rect.unit (s := S2x1024x32) ![h, o, 0] S1x512x32.size inb).toLoadRect X
      = cutW X ⟨h, by have : h + 1 ≤ 2 := inb 0; omega⟩ ⟨o / 512, by have : o + 512 ≤ 1024 := inb 1; omega⟩ := cutW_idx X h o inb ho _ _
/-- A read of the right neighbour's gates is a cut of them. -/
theorem read_wr (X : Vec F S2x1024x32 .bf16) (inb) (ho : o % 512 = 0) :
    View.readAt (Elt F) wrM.view (Rect.unit (s := S2x1024x32) ![h, o, 0] S1x512x32.size inb).toLoadRect X
      = cutW X ⟨h, by have : h + 1 ≤ 2 := inb 0; omega⟩ ⟨o / 512, by have : o + 512 ≤ 1024 := inb 1; omega⟩ := cutW_idx X h o inb ho _ _
/-- A read of the opposite device's gates is a cut of them. -/
theorem read_wo (X : Vec F S2x1024x32 .bf16) (inb) (ho : o % 512 = 0) :
    View.readAt (Elt F) woM.view (Rect.unit (s := S2x1024x32) ![h, o, 0] S1x512x32.size inb).toLoadRect X
      = cutW X ⟨h, by have : h + 1 ≤ 2 := inb 0; omega⟩ ⟨o / 512, by have : o + 512 ≤ 1024 := inb 1; omega⟩ := cutW_idx X h o inb ho _ _

/-- Reading 512 rows of the device's own tokens. -/
theorem read_own (X : Vec F S2048x512 .bf16) (inb) (ho : o % 512 = 0) :
    View.readAt (Elt F) xM.view (Rect.unit (s := S2048x512) ![o, 0] S512x512.size inb).toLoadRect X
      = cutOwn X ⟨o / 1024, by have : o + 512 ≤ 2048 := inb 0; omega⟩ ⟨o % 1024 / 512, by have := Nat.mod_lt o (show 0 < 1024 by decide); omega⟩ := by
  funext j
  refine congrArg X (funext fun a => ?_)
  match a with
  | 0 => exact Fin.ext (show o + 1 * (j 0).val = 1024 * (o / 1024) + 512 * (o % 1024 / 512) + (j 0).val by omega)
  | 1 => exact Fin.ext (show 0 + 1 * (j 1).val = (j 1).val by omega)

end

/-- Two halves, each of two tiles: the coordinates within the tile of row i. -/
theorem mem_tile (i : S2x1024x1024.Idx) (h o : ℕ) (inb : ∀ a, (![h, o, 0] : Fin 3 → ℕ) a + S1x512x1024.size a ≤ S2x1024x1024.size a)
    (h0 : (i 0).val = h) (h1 : o ≤ (i 1).val) (h2 : (i 1).val < o + 512) :
    i ∈ (Rect.unit (s := S2x1024x1024) ![h, o, 0] S1x512x1024.size inb).set :=
  Rect.mem_set_unit.mpr fun a => by
    match a with
    | 0 => exact ⟨(show h ≤ (i 0).val by omega), (show (i 0).val < h + 1 by omega)⟩
    | 1 => exact ⟨h1, h2⟩
    | 2 => exact ⟨Nat.zero_le _, (show (i 2).val < 0 + 1024 by have := (i 2).isLt; simp at this ⊢; omega)⟩

/-- A tile of a contribution, at an element of the buffer. -/
theorem contrib_emb (sel : FVec F S32x8 .bf16) (E : Vec F S4096x1024 .bf16) (X : Vec F S2x1024x512 .bf16) (W : Vec F S2x1024x32 .bf16)
    (h t : Fin 2) (o : ℕ) (ho : o = 512 * t.val) (inb : ∀ a, (![h.val, o, 0] : Fin 3 → ℕ) a + S1x512x1024.size a ≤ S2x1024x1024.size a)
    (x : (Rect.unit (s := S2x1024x1024) ![h.val, o, 0] S1x512x1024.size inb).shape.Idx) :
    contribTile sel E X W h t x = contrib sel E X W ((Rect.unit (s := S2x1024x1024) ![h.val, o, 0] S1x512x1024.size inb).emb x) := by
  have hx0 : (x 0).val = 0 := fin1_eq (n := S1x512x1024.size 0) rfl (x 0)
  have hx1 : (x 1).val < 512 := (x 1).isLt
  have e0 : ((Rect.unit (s := S2x1024x1024) ![h.val, o, 0] S1x512x1024.size inb).emb x 0).val = h.val := by
    show h.val + 1 * (x 0).val = _; omega
  have e1 : ((Rect.unit (s := S2x1024x1024) ![h.val, o, 0] S1x512x1024.size inb).emb x 1).val = o + (x 1).val := by
    show o + 1 * (x 1).val = _; omega
  have e2 : ((Rect.unit (s := S2x1024x1024) ![h.val, o, 0] S1x512x1024.size inb).emb x 2).val = (x 2).val := by
    show 0 + 1 * (x 2).val = _; omega
  unfold contrib
  have H0 : ((Rect.unit (s := S2x1024x1024) ![h.val, o, 0] S1x512x1024.size inb).emb x 0 : Fin 2) = h := Fin.ext e0
  have H1 : ∀ p, (⟨((Rect.unit (s := S2x1024x1024) ![h.val, o, 0] S1x512x1024.size inb).emb x 1).val / 512, p⟩ : Fin 2) = t :=
    fun p => Fin.ext (show _ / 512 = _ by rw [e1]; omega)
  rw [H1]
  refine (congrArg (fun h' => contribTile sel E X W h' t _) H0).symm ▸ congrArg (contribTile sel E X W h t) (funext fun a => ?_)
  match a with
  | 0 => exact Fin.ext (show (x 0).val = 0 from hx0)
  | 1 => exact Fin.ext (show (x 1).val = ((Rect.unit (s := S2x1024x1024) ![h.val, o, 0] S1x512x1024.size inb).emb x 1).val % 512 by rw [e1]; omega)
  | 2 => exact Fin.ext (show (x 2).val = _ from e2.symm)

/-- A buffer whose pieces are all stored holds what the pieces say. -/
theorem writes_full {s : Shape} {e : EltTy} (M : View sig .tc .vmem s e) (hM : M.set = Finset.univ)
    (f G : M.ty.Contents (Elt F)) (L : List (View.Piece (Elt F) s e))
    (hL : ∀ p ∈ L, ∀ x : p.1.shape.Idx, p.2 x = M.read (Elt F) G (p.1.emb x)) (hc : ∀ y, ∃ p ∈ L, y ∈ p.1.set) :
    M.writes (Elt F) f L = G := by
  refine View.contents_ext _ (fun y => ?_) (fun i hi => ?_)
  · exact View.read_writes_apply_of_pieces M f (M.read (Elt F) G) L hL y (hc y)
  · have : i ∈ M.set := hM ▸ Finset.mem_univ i
    obtain ⟨y, _, e⟩ := Finset.mem_map.mp this
    exact absurd e (hi y)

/-- A buffer after its four tiles are stored holds the contribution. -/
theorem writes4 (M : View sig .tc .vmem S2x1024x1024 .bf16) (hM : M.set = Finset.univ)
    (f G : M.ty.Contents (Elt F)) (sel : FVec F S32x8 .bf16) (E : Vec F S4096x1024 .bf16) (X : Vec F S2x1024x512 .bf16) (W : Vec F S2x1024x32 .bf16)
    (hG : M.read (Elt F) G = contrib sel E X W)
    {p00 p01 p10 p11 : FVec F S1x512x1024 .bf16} (i00 i01 i10 i11)
    (h00 : p00 = contribTile sel E X W 0 0) (h01 : p01 = contribTile sel E X W 0 1)
    (h10 : p10 = contribTile sel E X W 1 0) (h11 : p11 = contribTile sel E X W 1 1) :
    M.writes (Elt F) f [⟨Rect.unit (s := S2x1024x1024) ![1, 512, 0] S1x512x1024.size i11, p11⟩, ⟨Rect.unit (s := S2x1024x1024) ![1, 0, 0] S1x512x1024.size i10, p10⟩,
      ⟨Rect.unit (s := S2x1024x1024) ![0, 512, 0] S1x512x1024.size i01, p01⟩, ⟨Rect.unit (s := S2x1024x1024) ![0, 0, 0] S1x512x1024.size i00, p00⟩] = G := by
  subst h00 h01 h10 h11
  refine writes_full M hM f G _ (fun p hp x => ?_) (fun y => ?_)
  · rw [hG]
    simp only [List.mem_cons, List.not_mem_nil, or_false] at hp
    rcases hp with rfl | rfl | rfl | rfl
    · exact contrib_emb sel E X W 1 1 512 rfl i11 x
    · exact contrib_emb sel E X W 1 0 0 rfl i10 x
    · exact contrib_emb sel E X W 0 1 512 rfl i01 x
    · exact contrib_emb sel E X W 0 0 0 rfl i00 x
  · have y0 : (y 0).val < 2 := (y 0).isLt
    have y1 : (y 1).val < 1024 := (y 1).isLt
    rcases Nat.lt_or_ge (y 0).val 1 with a0 | a0 <;> rcases Nat.lt_or_ge (y 1).val 512 with a1 | a1
    · exact ⟨_, .tail _ (.tail _ (.tail _ (.head _))), mem_tile y 0 0 i00 (by omega) (by omega) (by omega)⟩
    · exact ⟨_, .tail _ (.tail _ (.head _)), mem_tile y 0 512 i01 (by omega) (by omega) (by omega)⟩
    · exact ⟨_, .tail _ (.head _), mem_tile y 1 0 i10 (by omega) (by omega) (by omega)⟩
    · exact ⟨_, .head _, mem_tile y 1 512 i11 (by omega) (by omega) (by omega)⟩

/-! ## The result's tiles -/

/-- A place in the rows of a stored tile is in the tile's rectangle. -/
theorem mem_rows (i : S2048x1024.Idx) (o : ℕ) (inb : ∀ a, (![o, 0] : Fin 2 → ℕ) a + S512x1024.size a ≤ S2048x1024.size a)
    (h1 : o ≤ (i 0).val) (h2 : (i 0).val < o + 512) : i ∈ (Rect.unit (s := S2048x1024) ![o, 0] S512x1024.size inb).set :=
  Rect.mem_set_unit.mpr fun a => by
    match a with
    | 0 => exact ⟨h1, h2⟩
    | 1 => exact ⟨Nat.zero_le _, (show (i 1).val < 0 + 1024 by have : (i 1).val < 1024 := (i 1).isLt; omega)⟩

/-- The result's buffer after four tiles of 512 rows are stored, each being the rows of one array. -/
theorem writesOut (f G : Vec F S2048x1024 .f32) {p0 p1 p2 p3 : FVec F S512x1024 .f32} (i0 i1 i2 i3)
    (h0 : ∀ x, p0 x = G ((Rect.unit (s := S2048x1024) ![0, 0] S512x1024.size i0).emb x))
    (h1 : ∀ x, p1 x = G ((Rect.unit (s := S2048x1024) ![512, 0] S512x1024.size i1).emb x))
    (h2 : ∀ x, p2 x = G ((Rect.unit (s := S2048x1024) ![1024, 0] S512x1024.size i2).emb x))
    (h3 : ∀ x, p3 x = G ((Rect.unit (s := S2048x1024) ![1536, 0] S512x1024.size i3).emb x)) :
    outM.view.writes (Elt F) f [⟨Rect.unit (s := S2048x1024) ![1536, 0] S512x1024.size i3, p3⟩, ⟨Rect.unit (s := S2048x1024) ![1024, 0] S512x1024.size i2, p2⟩,
      ⟨Rect.unit (s := S2048x1024) ![512, 0] S512x1024.size i1, p1⟩, ⟨Rect.unit (s := S2048x1024) ![0, 0] S512x1024.size i0, p0⟩] = G := by
  refine writes_full outM.view (View.set_whole _) f G _ (fun p hp x => ?_) (fun y => ?_)
  · simp only [List.mem_cons, List.not_mem_nil, or_false] at hp
    rcases hp with rfl | rfl | rfl | rfl
    · exact h3 x
    · exact h2 x
    · exact h1 x
    · exact h0 x
  · have y0 : (y 0).val < 2048 := (y 0).isLt
    rcases Nat.lt_or_ge (y 0).val 1024 with a0 | a0
    · rcases Nat.lt_or_ge (y 0).val 512 with a1 | a1
      · exact ⟨_, .tail _ (.tail _ (.tail _ (.head _))), mem_rows y 0 i0 (by omega) (by omega)⟩
      · exact ⟨_, .tail _ (.tail _ (.head _)), mem_rows y 512 i1 (by omega) (by omega)⟩
    · rcases Nat.lt_or_ge (y 0).val 1536 with a1 | a1
      · exact ⟨_, .tail _ (.head _), mem_rows y 1024 i2 (by omega) (by omega)⟩
      · exact ⟨_, .head _, mem_rows y 1536 i3 (by omega) (by omega)⟩

/-- Places with equal coordinates are equal, in two dimensions. -/
theorem ix2_congr {n0 n1 : ℕ} {a a' : Fin n0} {b b' : Fin n1} (h : a.val = a'.val) (h' : b.val = b'.val) : (ix2 a b) = ix2 a' b' := by
  rw [Fin.ext h, Fin.ext h']
/-- Places with equal coordinates are equal, in three dimensions. -/
theorem ix3_congr {n0 n1 n2 : ℕ} {a a' : Fin n0} {b b' : Fin n1} {c c' : Fin n2} (h : a.val = a'.val) (h' : b.val = b'.val) (h'' : c.val = c'.val) :
    (ix3 a b c) = ix3 a' b' c' := by rw [Fin.ext h, Fin.ext h', Fin.ext h'']

/-- A tile of the own contribution, at an element of the result's buffer. -/
theorem self_emb (sel : FVec F S32x8 .bf16) (E : Vec F S4096x1024 .bf16) (X : Vec F S2048x512 .bf16) (W : Vec F S2x1024x32 .bf16)
    (h t : Fin 2) (o : ℕ) (ho : o = 1024 * h.val + 512 * t.val) (inb : ∀ a, (![o, 0] : Fin 2 → ℕ) a + S512x1024.size a ≤ S2048x1024.size a)
    (x : (Rect.unit (s := S2048x1024) ![o, 0] S512x1024.size inb).shape.Idx) :
    selfTile sel E X W h t x = selfOut sel E X W ((Rect.unit (s := S2048x1024) ![o, 0] S512x1024.size inb).emb x) := by
  have hx0 : (x 0).val < 512 := (x 0).isLt
  have e0 : ((Rect.unit (s := S2048x1024) ![o, 0] S512x1024.size inb).emb x 0).val = o + (x 0).val := by
    show o + 1 * (x 0).val = _; omega
  have e1 : ((Rect.unit (s := S2048x1024) ![o, 0] S512x1024.size inb).emb x 1).val = (x 1).val := by
    show 0 + 1 * (x 1).val = _; omega
  have ht := t.isLt
  unfold selfOut
  have H0 : ∀ p, (⟨((Rect.unit (s := S2048x1024) ![o, 0] S512x1024.size inb).emb x 0).val / 1024, p⟩ : Fin 2) = h :=
    fun p => Fin.ext (show _ / 1024 = _ by rw [e0]; omega)
  have H1 : ∀ p, (⟨((Rect.unit (s := S2048x1024) ![o, 0] S512x1024.size inb).emb x 0).val % 1024 / 512, p⟩ : Fin 2) = t :=
    fun p => Fin.ext (show _ % 1024 / 512 = _ by rw [e0]; omega)
  rw [H0, H1]
  refine congrArg (selfTile sel E X W h t) (funext fun a => ?_)
  match a with
  | 0 => exact Fin.ext (show (x 0).val = ((Rect.unit (s := S2048x1024) ![o, 0] S512x1024.size inb).emb x 0).val % 512 by rw [e0]; omega)
  | 1 => exact Fin.ext (show (x 1).val = _ from e1.symm)

/-- A tile of the sums from both sides, added to a tile of the own contribution. -/
theorem out_emb (O : Vec F S2048x1024 .f32) (A B : Vec F S2x1024x1024 .bf16) (h t : Fin 2) (o o' : ℕ) (ho : o = 1024 * h.val + 512 * t.val) (ho' : o' = 512 * t.val)
    (inb : ∀ a, (![o, 0] : Fin 2 → ℕ) a + S512x1024.size a ≤ S2048x1024.size a)
    (inb' : ∀ a, (![h.val, o', 0] : Fin 3 → ℕ) a + S1x512x1024.size a ≤ S2x1024x1024.size a)
    (x : (Rect.unit (s := S2048x1024) ![o, 0] S512x1024.size inb).shape.Idx) :
    addf (addf (shapeCast S512x1024 (View.readAt (Elt F) outM.view (Rect.unit (s := S2048x1024) ![o, 0] S512x1024.size inb).toLoadRect O) shapeCasts_S512x1024_S512x1024)
        (extf .f32 (shapeCast S512x1024 (View.readAt (Elt F) rlM.view (Rect.unit (s := S2x1024x1024) ![h.val, o', 0] S1x512x1024.size inb').toLoadRect A) shapeCasts_S1x512x1024_S512x1024 : FVec F S512x1024 .bf16) bitsLt_bf16_f32))
      (extf .f32 (shapeCast S512x1024 (View.readAt (Elt F) rrM.view (Rect.unit (s := S2x1024x1024) ![h.val, o', 0] S1x512x1024.size inb').toLoadRect B) shapeCasts_S1x512x1024_S512x1024 : FVec F S512x1024 .bf16) bitsLt_bf16_f32) x
    = addf (addf O (extf .f32 (rows A : FVec F S2048x1024 .bf16) bitsLt_bf16_f32)) (extf .f32 (rows B : FVec F S2048x1024 .bf16) bitsLt_bf16_f32)
        ((Rect.unit (s := S2048x1024) ![o, 0] S512x1024.size inb).emb x) := by
  have hx0 : (x 0).val < 512 := (x 0).isLt
  have ht := t.isLt
  have cut : ∀ C : Vec F S2x1024x1024 .bf16, shapeCast S512x1024 (fun j => C ((Rect.unit (s := S2x1024x1024) ![h.val, o', 0] S1x512x1024.size inb').toLoadRect.idx j)) shapeCasts_S1x512x1024_S512x1024 x
      = rows C ((Rect.unit (s := S2048x1024) ![o, 0] S512x1024.size inb).emb x) := by
    intro C
    have hx : (x : S512x1024.Idx) = ix2 (x 0) (x 1) := eq_ix2 x
    rw [show shapeCast S512x1024 (fun j => C ((Rect.unit (s := S2x1024x1024) ![h.val, o', 0] S1x512x1024.size inb').toLoadRect.idx j)) shapeCasts_S1x512x1024_S512x1024 x
        = _ from (congrArg _ hx).trans (shapeCast_1ab_ab_apply _ _ _ _)]
    refine congrArg C (funext fun a => ?_)
    match a with
    | 0 => exact Fin.ext (show h.val + 1 * 0 = (o + 1 * (x 0).val) / 1024 by omega)
    | 1 => exact Fin.ext (show o' + 1 * (x 0).val = (o + 1 * (x 0).val) % 1024 by omega)
    | 2 => exact Fin.ext (show 0 + 1 * (x 1).val = 0 + 1 * (x 1).val from rfl)
  have own : shapeCast S512x1024 (View.readAt (Elt F) outM.view (Rect.unit (s := S2048x1024) ![o, 0] S512x1024.size inb).toLoadRect O) shapeCasts_S512x1024_S512x1024 x
      = O ((Rect.unit (s := S2048x1024) ![o, 0] S512x1024.size inb).emb x) := congrFun (shapeCast_self _ _) x
  exact congrArg₂ FloatOps.addf (congrArg₂ FloatOps.addf own (congrArg (fun v => FloatOps.extf .f32 bitsLt_bf16_f32 v) (cut A)))
    (congrArg (fun v => FloatOps.extf .f32 bitsLt_bf16_f32 v) (cut B))

/-- The positions the tiles are read at lie inside the buffers. -/
theorem inb_e (k : Fin 8) (d : Fin 2) : (![512 * k.val, 0] : Fin 2 → ℕ) d + S512x1024.size d ≤ S4096x1024.size d := by
  match d with
  | 0 => exact (show 512 * k.val + 512 ≤ 4096 by omega)
  | 1 => exact (show 0 + 1024 ≤ 1024 by omega)
/-- A tile of tokens is within its block. -/
theorem inb_x (h t : Fin 2) (d : Fin 3) : (![h.val, 512 * t.val, 0] : Fin 3 → ℕ) d + S1x512x512.size d ≤ S2x1024x512.size d := by
  match d with
  | 0 => exact (show h.val + 1 ≤ 2 by omega)
  | 1 => exact (show 512 * t.val + 512 ≤ 1024 by omega)
  | 2 => exact (show 0 + 512 ≤ 512 by omega)
/-- A tile of gates is within its block. -/
theorem inb_w (h t : Fin 2) (d : Fin 3) : (![h.val, 512 * t.val, 0] : Fin 3 → ℕ) d + S1x512x32.size d ≤ S2x1024x32.size d := by
  match d with
  | 0 => exact (show h.val + 1 ≤ 2 by omega)
  | 1 => exact (show 512 * t.val + 512 ≤ 1024 by omega)
  | 2 => exact (show 0 + 32 ≤ 32 by omega)
/-- A tile of the device's own tokens is within them. -/
theorem inb_own (h t : Fin 2) (d : Fin 2) : (![1024 * h.val + 512 * t.val, 0] : Fin 2 → ℕ) d + S512x512.size d ≤ S2048x512.size d := by
  match d with
  | 0 => exact (show 1024 * h.val + 512 * t.val + 512 ≤ 2048 by omega)
  | 1 => exact (show 0 + 512 ≤ 512 by omega)

/-- The expert matrices, as reads of the buffer that holds them. -/
theorem eTile_reads (E : Vec F S4096x1024 .bf16) :
    eTile E = fun k : Fin 8 => View.readAt (Elt F) ewM.view (Rect.unit (s := S4096x1024) ![512 * k.val, 0] S512x1024.size (inb_e k)).toLoadRect E :=
  funext fun k => ((read_e E _ (inb_e k) (by omega)).trans (congrArg (eTile E) (Fin.ext (by simp)))).symm

/-- A tile's first row tells which tile it is. -/
theorem half_div (t : Fin 2) (h) : (⟨512 * t.val / 512, h⟩ : Fin 2) = t := Fin.ext (by simp)

section
variable (sel : FVec F S32x8 .bf16) (E : Vec F S4096x1024 .bf16) (X : Vec F S2x1024x512 .bf16) (W : Vec F S2x1024x32 .bf16) (h t : Fin 2)

/-- A tile of the contribution to the left neighbour, as reads of the buffers. -/
theorem contrib_l : contribTile sel E X W h t = shapeCast S1x512x1024 (truncf .bf16 (tile sel
    (fun k : Fin 8 => View.readAt (Elt F) ewM.view (Rect.unit (s := S4096x1024) ![512 * k.val, 0] S512x1024.size (inb_e k)).toLoadRect E)
    (shapeCast S512x512 (View.readAt (Elt F) xlM.view (Rect.unit (s := S2x1024x512) ![h.val, 512 * t.val, 0] S1x512x512.size (inb_x h t)).toLoadRect X) shapeCasts_S1x512x512_S512x512)
    (shapeCast S512x32 (View.readAt (Elt F) wlM.view (Rect.unit (s := S2x1024x32) ![h.val, 512 * t.val, 0] S1x512x32.size (inb_w h t)).toLoadRect W) shapeCasts_S1x512x32_S512x32))
    bitsLt_bf16_f32) shapeCasts_S512x1024_S1x512x1024 := by
  rw [read_xl h.val (512 * t.val) X _ (by omega), read_wl h.val (512 * t.val) W _ (by omega), half_div, ← eTile_reads]
  rfl

/-- A tile of the contribution to the right neighbour, as reads of the buffers. -/
theorem contrib_r : contribTile sel E X W h t = shapeCast S1x512x1024 (truncf .bf16 (tile sel
    (fun k : Fin 8 => View.readAt (Elt F) ewM.view (Rect.unit (s := S4096x1024) ![512 * k.val, 0] S512x1024.size (inb_e k)).toLoadRect E)
    (shapeCast S512x512 (View.readAt (Elt F) xrM.view (Rect.unit (s := S2x1024x512) ![h.val, 512 * t.val, 0] S1x512x512.size (inb_x h t)).toLoadRect X) shapeCasts_S1x512x512_S512x512)
    (shapeCast S512x32 (View.readAt (Elt F) wrM.view (Rect.unit (s := S2x1024x32) ![h.val, 512 * t.val, 0] S1x512x32.size (inb_w h t)).toLoadRect W) shapeCasts_S1x512x32_S512x32))
    bitsLt_bf16_f32) shapeCasts_S512x1024_S1x512x1024 := by
  rw [read_xr h.val (512 * t.val) X _ (by omega), read_wr h.val (512 * t.val) W _ (by omega), half_div, ← eTile_reads]
  rfl

/-- A tile of the contribution to the opposite device, as reads of the buffers. -/
theorem contrib_o : contribTile sel E X W h t = shapeCast S1x512x1024 (truncf .bf16 (tile sel
    (fun k : Fin 8 => View.readAt (Elt F) ewM.view (Rect.unit (s := S4096x1024) ![512 * k.val, 0] S512x1024.size (inb_e k)).toLoadRect E)
    (shapeCast S512x512 (View.readAt (Elt F) xoM.view (Rect.unit (s := S2x1024x512) ![h.val, 512 * t.val, 0] S1x512x512.size (inb_x h t)).toLoadRect X) shapeCasts_S1x512x512_S512x512)
    (shapeCast S512x32 (View.readAt (Elt F) woM.view (Rect.unit (s := S2x1024x32) ![h.val, 512 * t.val, 0] S1x512x32.size (inb_w h t)).toLoadRect W) shapeCasts_S1x512x32_S512x32))
    bitsLt_bf16_f32) shapeCasts_S512x1024_S1x512x1024 := by
  rw [read_xo h.val (512 * t.val) X _ (by omega), read_wo h.val (512 * t.val) W _ (by omega), half_div, ← eTile_reads]
  rfl

/-- A tile of what a device adds for its own tokens, as reads of the buffers. -/
theorem self_reads (x : Vec F S2048x512 .bf16) : selfTile sel E x W h t = tile sel
    (fun k : Fin 8 => View.readAt (Elt F) ewM.view (Rect.unit (s := S4096x1024) ![512 * k.val, 0] S512x1024.size (inb_e k)).toLoadRect E)
    (shapeCast S512x512 (View.readAt (Elt F) xM.view (Rect.unit (s := S2048x512) ![1024 * h.val + 512 * t.val, 0] S512x512.size (inb_own h t)).toLoadRect x) shapeCasts_S512x512_S512x512)
    (shapeCast S512x32 (View.readAt (Elt F) wsM.view (Rect.unit (s := S2x1024x32) ![h.val, 512 * t.val, 0] S1x512x32.size (inb_w h t)).toLoadRect W) shapeCasts_S1x512x32_S512x32) := by
  rw [read_own (1024 * h.val + 512 * t.val) x _ (by omega), read_ws h.val (512 * t.val) W _ (by omega), half_div, ← eTile_reads]
  have e1 : (1024 * h.val + 512 * t.val) / 1024 = h.val := by omega
  have e2 : (1024 * h.val + 512 * t.val) % 1024 / 512 = t.val := by omega
  simp only [e1, e2]
  rfl
end

/-- What is passed on, after what arrived is added to half 0 of the own contribution. -/
theorem writes_crF (I : Inp F) (d : Dev nD) (i0 ih) {p : FVec F S1x1024x1024 .bf16}
    (hp : p = shapeCast S1x1024x1024 (addf
      (shapeCast S1024x1024 (View.readAt (Elt F) crM.view (Rect.unit (s := S2x1024x1024) ![0, 0, 0] S1x1024x1024.size i0).toLoadRect (I.cr d)) shapeCasts_S1x1024x1024_S1024x1024 : FVec F S1024x1024 .bf16)
      (View.readAt (Elt F) hlM.view (Rect.unit (s := S1024x1024) ![0, 0] S1024x1024.size ih).toLoadRect (I.hl d))) shapeCasts_S1024x1024_S1x1024x1024) :
    crM.view.writes (Elt F) (I.cr d) [⟨Rect.unit (s := S2x1024x1024) ![0, 0, 0] S1x1024x1024.size i0, p⟩] = I.crF d := by
  refine View.contents_ext _ (fun y => ?_) (fun i hi => ?_)
  · obtain ⟨a, r, j, rfl⟩ : ∃ (a : Fin 2) (r j : Fin 1024), y = ix3 a r j := ⟨y 0, y 1, y 2, eq_ix3 y⟩
    by_cases ha : a.val = 0
    · rw [View.read_writes_cons_hit_of_coords _ _ (Rect.unit (s := S2x1024x1024) ![0, 0, 0] S1x1024x1024.size i0) _ _ (ix3 (0 : Fin 1) r j) _ (fun x => by
        match x with
        | 0 => exact (show a.val = 0 + 1 * 0 by omega)
        | 1 => exact (show r.val = 0 + 1 * r.val by omega)
        | 2 => exact (show j.val = 0 + 1 * j.val by omega))]
      subst hp
      refine (shapeCast_ab_1ab_apply _ _ _ _ _).trans ?_
      refine Eq.trans ?_ (if_pos ha).symm
      refine congrArg₂ FloatOps.addf ((shapeCast_1ab_ab_apply _ _ _ _).trans (congrArg (I.cr d) (funext fun x => ?_))) (congrArg (I.hl d) (funext fun x => ?_))
      · match x with
        | 0 => exact Fin.ext (show 0 + 1 * 0 = 0 by omega)
        | 1 => exact Fin.ext (show 0 + 1 * r.val = r.val by omega)
        | 2 => exact Fin.ext (show 0 + 1 * j.val = j.val by omega)
      · match x with
        | 0 => exact Fin.ext (show 0 + 1 * r.val = r.val by omega)
        | 1 => exact Fin.ext (show 0 + 1 * j.val = j.val by omega)
    · rw [View.read_writes_cons_miss_of_axis _ _ _ _ _ 0 0 1 rfl rfl rfl (by have := a.isLt; show a.val < 0 ∨ 0 + 1 ≤ a.val; omega)]
      exact (if_neg ha).symm
  · have : i ∈ crM.view.set := (View.set_whole _ : crM.view.set = _) ▸ Finset.mem_univ i
    obtain ⟨y, _, e⟩ := Finset.mem_map.mp this
    exact absurd e (hi y)

/-- What is passed on, after what arrived is added to half 1 of the own contribution. -/
theorem writes_clF (I : Inp F) (d : Dev nD) (i0 ih) {p : FVec F S1x1024x1024 .bf16}
    (hp : p = shapeCast S1x1024x1024 (addf
      (shapeCast S1024x1024 (View.readAt (Elt F) clM.view (Rect.unit (s := S2x1024x1024) ![1, 0, 0] S1x1024x1024.size i0).toLoadRect (I.cl d)) shapeCasts_S1x1024x1024_S1024x1024 : FVec F S1024x1024 .bf16)
      (View.readAt (Elt F) hrM.view (Rect.unit (s := S1024x1024) ![0, 0] S1024x1024.size ih).toLoadRect (I.hr d))) shapeCasts_S1024x1024_S1x1024x1024) :
    clM.view.writes (Elt F) (I.cl d) [⟨Rect.unit (s := S2x1024x1024) ![1, 0, 0] S1x1024x1024.size i0, p⟩] = I.clF d := by
  refine View.contents_ext _ (fun y => ?_) (fun i hi => ?_)
  · obtain ⟨a, r, j, rfl⟩ : ∃ (a : Fin 2) (r j : Fin 1024), y = ix3 a r j := ⟨y 0, y 1, y 2, eq_ix3 y⟩
    by_cases ha : a.val = 1
    · rw [View.read_writes_cons_hit_of_coords _ _ (Rect.unit (s := S2x1024x1024) ![1, 0, 0] S1x1024x1024.size i0) _ _ (ix3 (0 : Fin 1) r j) _ (fun x => by
        match x with
        | 0 => exact (show a.val = 1 + 1 * 0 by omega)
        | 1 => exact (show r.val = 0 + 1 * r.val by omega)
        | 2 => exact (show j.val = 0 + 1 * j.val by omega))]
      subst hp
      refine (shapeCast_ab_1ab_apply _ _ _ _ _).trans ?_
      refine Eq.trans ?_ (if_pos ha).symm
      refine congrArg₂ FloatOps.addf ((shapeCast_1ab_ab_apply _ _ _ _).trans (congrArg (I.cl d) (funext fun x => ?_))) (congrArg (I.hr d) (funext fun x => ?_))
      · match x with
        | 0 => exact Fin.ext (show 1 + 1 * 0 = 1 by omega)
        | 1 => exact Fin.ext (show 0 + 1 * r.val = r.val by omega)
        | 2 => exact Fin.ext (show 0 + 1 * j.val = j.val by omega)
      · match x with
        | 0 => exact Fin.ext (show 0 + 1 * r.val = r.val by omega)
        | 1 => exact Fin.ext (show 0 + 1 * j.val = j.val by omega)
    · rw [View.read_writes_cons_miss_of_axis _ _ _ _ _ 0 1 1 rfl rfl rfl (by have := a.isLt; show a.val < 1 ∨ 1 + 1 ≤ a.val; omega)]
      exact (if_neg ha).symm
  · have : i ∈ clM.view.set := (View.set_whole _ : clM.view.set = _) ▸ Finset.mem_univ i
    obtain ⟨y, _, e⟩ := Finset.mem_map.mp this
    exact absurd e (hi y)

/-- Reading a whole buffer, or one column of the experts of each token. -/
theorem read_x_all (X : Vec F S2048x512 .bf16) (inb) : View.readAt (Elt F) xM.view (Rect.unit (s := S2048x512) ![0, 0] S2048x512.size inb).toLoadRect X = X := by
  funext j
  refine congrArg X (funext fun a => ?_)
  match a with
  | 0 => exact Fin.ext (show 0 + 1 * (j 0).val = (j 0).val by omega)
  | 1 => exact Fin.ext (show 0 + 1 * (j 1).val = (j 1).val by omega)
/-- A read of the whole router is the router. -/
theorem read_rw_all (X : Vec F S512x32 .bf16) (inb) : View.readAt (Elt F) rwM.view (Rect.unit (s := S512x32) ![0, 0] S512x32.size inb).toLoadRect X = X := by
  funext j
  refine congrArg X (funext fun a => ?_)
  match a with
  | 0 => exact Fin.ext (show 0 + 1 * (j 0).val = (j 0).val by omega)
  | 1 => exact Fin.ext (show 0 + 1 * (j 1).val = (j 1).val by omega)
/-- A read of one column of the chosen experts is that column. -/
theorem read_col (I : Inp F) (d : Dev nD) (k : Fin 2) (inb) :
    View.readAt (Elt F) ixM.view (Rect.unit (s := S2048x2) ![0, k.val] S2048x1.size inb).toLoadRect (I.ix d) = I.col d k := by
  funext j
  refine congrArg (I.ix d) (funext fun a => ?_)
  have h1 : (j 1).val = 0 := fin1_eq (n := S2048x1.size 1) rfl (j 1)
  match a with
  | 0 => exact Fin.ext (show 0 + 1 * (j 0).val = (j 0).val by omega)
  | 1 => exact Fin.ext (show k.val + 1 * (j 1).val = k.val by omega)

/-- The gates, from what the kernel reads. -/
theorem gate_reads (I : Inp F) (d : Dev nD) (ix iw i0 i1) :
    k0_pay5 (k0_pay1 (View.readAt (Elt F) xM.view (Rect.unit (s := S2048x512) ![0, 0] S2048x512.size ix).toLoadRect (I.x d))
        (View.readAt (Elt F) rwM.view (Rect.unit (s := S512x32) ![0, 0] S512x32.size iw).toLoadRect (I.rw d)))
      (k0_pay2 (View.readAt (Elt F) ixM.view (Rect.unit (s := S2048x2) ![0, 0] S2048x1.size i0).toLoadRect (I.ix d)))
      (k0_pay3 (View.readAt (Elt F) ixM.view (Rect.unit (s := S2048x2) ![0, 1] S2048x1.size i1).toLoadRect (I.ix d)))
      (k0_pay4 (View.readAt (Elt F) xM.view (Rect.unit (s := S2048x512) ![0, 0] S2048x512.size ix).toLoadRect (I.x d))
        (View.readAt (Elt F) rwM.view (Rect.unit (s := S512x32) ![0, 0] S512x32.size iw).toLoadRect (I.rw d))
        (View.readAt (Elt F) ixM.view (Rect.unit (s := S2048x2) ![0, 0] S2048x1.size i0).toLoadRect (I.ix d))) = I.gate d := by
  rw [read_x_all, read_rw_all]
  have e0 := read_col I d 0 i0
  have e1 := read_col I d 1 i1
  unfold Inp.gate
  rw [← e0, ← e1]
  rfl

/-- A half of the gates, as it is stored, at a place. -/
theorem cut_gate (g : FVec F S2048x32 .bf16) (o : ℕ) (sl) (cast) (i : S1x1024x32.Idx) (j : S2048x32.Idx)
    (h0 : (j 0).val = o + (i 1).val) (h1 : (j 1).val = (i 2).val) :
    shapeCast S1x1024x32 (extractStridedSlice S1024x32 ![o, 0] g sl) cast i = g j := by
  have hi0 : (i 0).val = 0 := fin1_eq (n := S1x1024x32.size 0) rfl (i 0)
  obtain ⟨b, c, rfl⟩ : ∃ (b : Fin 1024) (c : Fin 32), i = ix3 (0 : Fin 1) b c := ⟨i 1, i 2, by rw [eq_ix3 i]; exact ix3_congr hi0 rfl rfl⟩
  refine (shapeCast_ab_1ab_apply _ _ _ _ _).trans (congrArg g (funext fun a => ?_))
  match a with
  | 0 => exact Fin.ext (show o + b.val = (j 0).val from h0.symm)
  | 1 => exact Fin.ext (show 0 + c.val = (j 1).val by rw [Nat.zero_add]; exact h1.symm)

/-- A place in the layer of a stored half is in the half's rectangle. -/
theorem mem_gates (i : S2x1024x32.Idx) (h : ℕ) (inb : ∀ a, (![h, 0, 0] : Fin 3 → ℕ) a + S1x1024x32.size a ≤ S2x1024x32.size a) (h0 : (i 0).val = h) :
    i ∈ (Rect.unit (s := S2x1024x32) ![h, 0, 0] S1x1024x32.size inb).set :=
  Rect.mem_set_unit.mpr fun a => by
    have i1 : (i 1).val < 1024 := (i 1).isLt
    have i2 : (i 2).val < 32 := (i 2).isLt
    match a with
    | 0 => exact ⟨(show h ≤ (i 0).val by omega), (show (i 0).val < h + 1 by omega)⟩
    | 1 => exact ⟨Nat.zero_le _, (show (i 1).val < 0 + 1024 by omega)⟩
    | 2 => exact ⟨Nat.zero_le _, (show (i 2).val < 0 + 32 by omega)⟩

/-- The device's gates, after both halves are stored. -/
theorem writesW (I : Inp F) (d : Dev nD) (f : Vec F S2x1024x32 .bf16) (i0 i1) {p0 p1 : FVec F S1x1024x32 .bf16}
    (h0 : p0 = shapeCast S1x1024x32 (extractStridedSlice S1024x32 ![0, 0] (I.gate d) slices_S2048x32_o0_0_S1024x32) shapeCasts_S1024x32_S1x1024x32)
    (h1 : p1 = shapeCast S1x1024x32 (extractStridedSlice S1024x32 ![1024, 0] (I.gate d) slices_S2048x32_o1024_0_S1024x32) shapeCasts_S1024x32_S1x1024x32) :
    wsM.view.writes (Elt F) f [⟨Rect.unit (s := S2x1024x32) ![1, 0, 0] S1x1024x32.size i1, p1⟩, ⟨Rect.unit (s := S2x1024x32) ![0, 0, 0] S1x1024x32.size i0, p0⟩] = I.w d := by
  subst h0 h1
  refine writes_full wsM.view (View.set_whole _) f (I.w d) _ (fun p hp x => ?_) (fun y => ?_)
  · simp only [List.mem_cons, List.not_mem_nil, or_false] at hp
    rcases hp with rfl | rfl
    · have hx0 : (x 0).val = 0 := fin1_eq (n := S1x1024x32.size 0) rfl (x 0)
      refine cut_gate (I.gate d) 1024 slices_S2048x32_o1024_0_S1024x32 shapeCasts_S1024x32_S1x1024x32 x _ ?_ ?_
      · show 1024 * (1 + 1 * (x 0).val) + (0 + 1 * (x 1).val) = 1024 + (x 1).val; omega
      · show 0 + 1 * (x 2).val = (x 2).val; omega
    · have hx0 : (x 0).val = 0 := fin1_eq (n := S1x1024x32.size 0) rfl (x 0)
      refine cut_gate (I.gate d) 0 slices_S2048x32_o0_0_S1024x32 shapeCasts_S1024x32_S1x1024x32 x _ ?_ ?_
      · show 1024 * (0 + 1 * (x 0).val) + (0 + 1 * (x 1).val) = 0 + (x 1).val; omega
      · show 0 + 1 * (x 2).val = (x 2).val; omega
  · have y0 : (y 0).val < 2 := (y 0).isLt
    have y1 : (y 1).val < 1024 := (y 1).isLt
    have y2 : (y 2).val < 32 := (y 2).isLt
    rcases Nat.lt_or_ge (y 0).val 1 with a0 | a0
    · exact ⟨_, .tail _ (.head _), mem_gates y 0 i0 (by omega)⟩
    · exact ⟨_, .head _, mem_gates y 1 i1 (by omega)⟩

end Cert.KernelIdeal.Moe
-- ==== Proof.KI.Steps.lean ====
/-
The remote steps of the kernel as rules: a copy to a neighbour, a wait for a copy, a signal, each with the cells' invariants found by the
device and the number of the semaphore.
-/
module

public import proofs.«01_k».proof.Proof.KI.Base

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- There are no loop variants. -/
abbrev 𝒱₀ : Variants := Variants.none

variable (I : Inp F)

/-- The invariants of all the cells, at the names K. -/
def invAll (K : GSem nD τ sig → ℕ) : sProp 𝕄 :=
  iprop((bigSep Finset.univ fun c : Dev nD => cellInv ER (Rd I) (K (barCell c)) (barCell c))
    ∗ bigSep Finset.univ fun ck : Dev nD × Fin 29 => cellInv ER (Rd I) (K (oCell ck.1 ck.2)) (oCell ck.1 ck.2))

instance (K : GSem nD τ sig → ℕ) : BI.Persistent (invAll I K) := by unfold invAll; infer_instance

/-- A copy's counter among the own counters. -/
theorem osem_dma (n : DmaSem sig) (h : 5 ≤ n.val) : osem ⟨n.val - 5, by have := n.isLt; have : n.val < 33 := this; omega⟩ = .dma n := by
  have h33 : n.val < 33 := n.isLt
  unfold osem
  rw [dif_pos (show n.val - 5 < 28 by omega)]
  exact congrArg SemLoc.dma (Fin.ext (show 5 + (n.val - 5) = n.val by omega))

/-- The last counter among the own counters. -/
theorem osem_end : osem 28 = .reg (1 : Sem sig) := rfl

/-- The invariant of a device's opening barrier. -/
theorem inv_bar (K : GSem nD τ sig → ℕ) (c : Dev nD) : invAll I K ⊢ cellInv ER (Rd I) (K (barCell c)) (barCell c) := by
  unfold invAll; exact sep_elim_left.trans (BI.bigSep_elim (Finset.mem_univ c))

/-- The invariant of a device's k-th own counter. -/
theorem inv_own (K : GSem nD τ sig → ℕ) (c : Dev nD) (k : Fin 29) : invAll I K ⊢ cellInv ER (Rd I) (K (oCell c k)) (oCell c k) := by
  unfold invAll; exact sep_elim_right.trans (BI.bigSep_elim (Finset.mem_univ (c, k)))

/-- The invariant of a copy's counter. -/
theorem inv_dma (K : GSem nD τ sig → ℕ) (c : Dev nD) (n : DmaSem sig) (h : 5 ≤ n.val) : invAll I K ⊢ cellInv ER (Rd I) (K (dCell c n)) (dCell c n) := by
  have := inv_own I K c ⟨n.val - 5, by have := n.isLt; have : n.val < 33 := this; omega⟩
  unfold oCell at this; rw [osem_dma n h] at this; exact this

/-- The invariant of the last counter. -/
theorem inv_end (K : GSem nD τ sig → ℕ) (c : Dev nD) : invAll I K ⊢ cellInv ER (Rd I) (K (endCell c)) (endCell c) := inv_own I K c 28

/-- A device's k-th own counter is in its first round. -/
theorem reached_own (c : Dev nD) (k : Fin 29) : reachedAll (F := F) c ⊢ reached ER (oCell c k) 0 := by
  unfold reachedAll; exact BI.bigSep_elim (Finset.mem_univ k)

/-- A copy's counter is in its first round. -/
theorem reached_dma (c : Dev nD) (n : DmaSem sig) (h : 5 ≤ n.val) : reachedAll (F := F) c ⊢ reached ER (dCell c n) 0 := by
  have := reached_own (F := F) c ⟨n.val - 5, by have := n.isLt; have : n.val < 33 := this; omega⟩
  unfold oCell at this; rw [osem_dma n h] at this; exact this

/-- The last counter is in its first round. -/
theorem reached_end (c : Dev nD) : reachedAll (F := F) c ⊢ reached ER (endCell c) 0 := reached_own c 28

/-- Device c owes what r payments are left to make, whatever it has waited for. -/
def owesE (c : Dev nD) (r : ℕ) : sProp 𝕄 := iprop(∃ W, owes (c : Thread nD τ) (owed c r) W)

/-- What is owed, with one payment taken off. -/
theorem owed_step (c : Dev nD) (r : ℕ) {g : GSem nD τ sig} {N : ℕ} (hd : debt c (17 - r) = (g, N)) : owed c (r + 1) = owed c r + tallyAt g () N := by
  show owed c r + tallyAt (debt c (17 - r)).1 () (debt c (17 - r)).2 = _; rw [hd]

/-- A copy to the neighbour c': the source share is spent, the landing buffer handed over, one payment less is owed, and the credit for
    waiting for the source is gained. -/
theorem wp_xfer {α : Type} {Q : α → sProp 𝕄} (K : GSem nD τ sig → ℕ) (c c' : Dev nD) {s : Shape} {e : EltTy} {src dst : Memref sig .tc .vmem s e}
    {n₁ n₂ : DmaSem sig} {h1 : src.view.WordExact} {h2 : dst.view.WordExact} {hsc : dst.view.ref.isScScratch = false}
    {h3 : DmaTarget.Typed .vmem (.dma n₂) (.remote (Dev.tc c' : Thread nD τ) dst (.dma n₁) hsc)}
    {k : PUnit → Prog (TpuEff nD τ sig (Elt F) Λ₀ .tc) α} {q : PosShare TreeShare} {fs : Buf (Elt F) (src.view.loc (c : Thread nD τ))} (r : ℕ)
    (hn₁ : 5 ≤ n₁.val) (hn₂ : 5 ≤ n₂.val) (hN : dst.view.dmaCredit = amtOf n₂.val) (hA : amtOf n₁.val = amtOf n₂.val)
    (hd : debt c (17 - r) = (dCell c' n₂, amtOf n₂.val))
    (hpay₁ : mpt src c q fs ⊢ dmaPay I c n₁.val)
    (hpay₂ : ∀ fd : Buf (Elt F) (dst.view.loc (c' : Thread nD τ)),
      mpt dst c' fullShare (dst.view.write (Elt F) fd (src.view.read (Elt F) fs) Finset.univ) ⊢ dmaPay I c' n₂.val) :
    iprop(invAll I K ∗ reachedAll c ∗ reachedAll c' ∗ mpt src c q fs ∗ mAny dst c' ∗ owesE c (r + 1)
        ∗ dutyTok ER (dCell c n₁) 0 false ∗ dutyTok ER (dCell c' n₂) 0 false)
      ⊢ iprop(((cred (tallyAt (dCell c n₁) () (amtOf n₁.val)) ∗ owesE c r) -∗ wp frame (wpE (defs₀ (F := F)) 𝒱₀ c none) Set.univ (k ⟨⟩) Q)
        -∗ wp frame (wpE (defs₀ (F := F)) 𝒱₀ c none) Set.univ (.op (.enqueueDma src (.remote (Dev.tc c') dst (.dma n₁) hsc) (.dma n₂) h1 h2 h3) k) Q) := by
  unfold mAny owesE
  iintro ⟨#HI, #HR, #HR', Hs, ⟨%fd, Hd⟩, ⟨%W, HO⟩, Ht1, Ht2⟩ Hk
  ihave #HIs := (inv_dma I K c n₁ hn₁) $$ HI
  ihave #HIr := (inv_dma I K c' n₂ hn₂) $$ HI
  ihave #HRs := (reached_dma (F := F) c n₁ hn₁) $$ HR
  ihave #HRr := (reached_dma (F := F) c' n₂ hn₂) $$ HR'
  iapply (Rounds.wp_send_pointsTo 𝒱₀ ER (Rd I) (c : Thread nD τ) none (c' := (c' : Thread nD τ)) (src := src) (dst := dst)
      (sS := .dma n₁) (sem := .dma n₂) (q := q) (fs := fs) (κ₁ := K (dCell c n₁)) (κ₂ := K (dCell c' n₂))
      (r₁ := 0) (r₂ := 0) (d₁ := false) (d₂ := false) (fd := fd)
      (by rw [duties_dma I c n₁ hn₁]; exact Finset.mem_singleton_self _) (by rw [duties_dma I c' n₂ hn₂]; exact Finset.mem_singleton_self _)
      () () (amtOf n₁.val) (hN.trans hA.symm) rfl hA.symm (owed c r)
      (O₀ := owed c (r + 1)) (hA ▸ owed_step c r hd) (W := W) hpay₁ (hpay₂ fd)) $$ [Hs Hd HO Ht1 Ht2]
  · isplitr; · iexact HIs
    isplitr; · iexact HIr
    isplitl [Hs]; · iexact Hs
    isplitl [Hd]; · iexact Hd
    isplitl [HO]; · iexact HO
    isplitl [Ht1]; · iexact Ht1
    isplitr; · iexact HRs
    isplitl [Ht2]; · iexact Ht2
    iexact HRr
  iintro ⟨Hc, HO⟩
  iapply Hk
  isplitl [Hc]; · iexact Hc
  iexists W; iexact HO

/-- A wait for a copy: what the copy pays is gained, and the semaphore is back in hand at zero. -/
theorem wp_waitc {α : Type} {Q : α → sProp 𝕄} (K : GSem nD τ sig → ℕ) (c : Dev nD) {s s' : Shape} {e e' : EltTy} {src : Memref sig .tc .vmem s' e'} {dst : Memref sig .tc .vmem s e}
    {n : DmaSem sig} {h1 : src.view.WordExact} {h2 : dst.view.WordExact}
    {k : PUnit → Prog (TpuEff nD τ sig (Elt F) Λ₀ .tc) α} (r b : ℕ)
    (hn : 5 ≤ n.val) (hN : dst.view.dmaCredit = amtOf n.val) (hb : rankOf (.dma n) ≤ b)
    (hr : ∀ j < r, b < [1, 1, 2, 2, 2, 2, 2, 2, 3, 3, 3, 3, 4, 4, 5, 5, 6].getD (17 - j) 6) :
    iprop(invAll I K ∗ levAts L lv ∗ cred (tallyAt (dCell c n) () (amtOf n.val)) ∗ owesE c r ∗ atPos ER (dCell c n) 0 ∅ 0)
      ⊢ iprop(((owesE c r ∗ semVal (dCell c n) 0 ∗ dmaPay I c n.val) -∗ wp frame (wpE (defs₀ (F := F)) 𝒱₀ c none) Set.univ (k ⟨⟩) Q)
        -∗ wp frame (wpE (defs₀ (F := F)) 𝒱₀ c none) Set.univ (.op (.waitDma2 n src dst h1 h2) k) Q) := by
  unfold owesE
  iintro ⟨#HI, #Hlev, Hc, ⟨%W, HO⟩, Hat⟩ Hk
  ihave #HIc := (inv_dma I K c n hn) $$ HI
  iapply (Rounds.wp_wait_rest_token 𝒱₀ ER (Rd I) (c : Thread nD τ) none (κ := K (dCell c n))
      (wpE_waitDma2_eq 𝒱₀ (c : Thread nD τ) none Set.univ) (Set.mem_univ _) () (O := owed c r) (W := W) (R := 0) (m := 0) (T := ∅)
      ((Nat.zero_add _).trans (hN.trans (expect_dma I c n hn).symm))) $$ [Hc HO Hat]
  · isplitr; · iexact HIc
    isplitl [Hc]; · rw [hN]; iexact Hc
    isplitl [HO]; · iexact HO
    isplitr; · iapply (mayWait_owed (F := F) c (.dma n) r b hb hr); iexact Hlev
    iexact Hat
  iintro ⟨HO, Hat, -, Hpay⟩
  ihave Hp := (Entails.of_eq (rest_dma I c n hn)) $$ Hpay
  imod (Rounds.cell_close ER (Rd I) (Set.mem_univ (K (dCell c n))) id (duties_later I (dCell c n))) $$ [Hat] with Hv
  · isplitr; · iexact HIc
    iexact Hat
  iapply Hk
  isplitl [HO]; · iexists _; iexact HO
  isplitl [Hv]; · iexact Hv
  iexact Hp

/-- A signal to a neighbour's regular semaphore. -/
theorem wp_sig {α : Type} {Q : α → sProp 𝕄} (K : GSem nD τ sig → ℕ) (c c' : Dev nD) {s : Sem sig} (d : Bool)
    {k : PUnit → Prog (TpuEff nD τ sig (Elt F) Λ₀ .tc) α} (r : ℕ) (hd : debt c (17 - r) = (((c' : Thread nD τ), .reg s), 1)) :
    iprop(cellInv ER (Rd I) (K ((c' : Thread nD τ), .reg s)) ((c' : Thread nD τ), .reg s) ∗ owesE c (r + 1)
        ∗ dutyTok ER ((c' : Thread nD τ), .reg s) 0 d ∗ (Rd I).payload ((c' : Thread nD τ), .reg s) 0 d ∗ reached ER ((c' : Thread nD τ), .reg s) 0)
      ⊢ iprop((owesE c r -∗ wp frame (wpE (defs₀ (F := F)) 𝒱₀ c none) Set.univ (k ⟨⟩) Q)
        -∗ wp frame (wpE (defs₀ (F := F)) 𝒱₀ c none) Set.univ (.op (.semSignal (Dev.tc c') s 1) k) Q) := by
  unfold owesE
  iintro ⟨HI, ⟨%W, HO⟩, Ht, Hp, Hr⟩ Hk
  iapply (Rounds.wp_signal 𝒱₀ ER (Rd I) (c : Thread nD τ) none (dst := (c' : Thread nD τ)) (sem := s) (r := 0) (d := d)
      (κ := K ((c' : Thread nD τ), .reg s)) (by rw [duties_reg I c' s]; revert d; decide) (amount_reg I c' s d) () (owed c r)
      (O₀ := owed c (r + 1)) (owed_step c r hd)) $$ [HI HO Ht Hp Hr]
  · isplitl [HI]; · iexact HI
    isplitl [HO]; · iexact HO
    isplitl [Ht]; · iexact Ht
    isplitl [Hp]; · iexact Hp
    iexact Hr
  iintro HO
  iapply Hk; iexists W; iexact HO

/-- A wait for both neighbours' signals. -/
theorem wp_waits {α : Type} {Q : α → sProp 𝕄} (K : GSem nD τ sig → ℕ) (c : Dev nD) {s : Sem sig}
    {k : PUnit → Prog (TpuEff nD τ sig (Elt F) Λ₀ .tc) α} (r b : ℕ) (hb : rankOf (.reg s) ≤ b)
    (hr : ∀ j < r, b < [1, 1, 2, 2, 2, 2, 2, 2, 3, 3, 3, 3, 4, 4, 5, 5, 6].getD (17 - j) 6) :
    iprop(cellInv ER (Rd I) (K ((c : Thread nD τ), .reg s)) ((c : Thread nD τ), .reg s) ∗ levAts L lv
        ∗ cred (tallyAt ((c : Thread nD τ), .reg s) () 2) ∗ owesE c r ∗ atPos ER ((c : Thread nD τ), .reg s) 0 ∅ 0)
      ⊢ iprop(((owesE c r ∗ semVal ((c : Thread nD τ), .reg s) 0
            ∗ bigSep ((Rd I).duties ((c : Thread nD τ), .reg s) 0 \ ∅) (fun d => (Rd I).payload ((c : Thread nD τ), .reg s) 0 d))
          -∗ wp frame (wpE (defs₀ (F := F)) 𝒱₀ c none) Set.univ (k ⟨⟩) Q)
        -∗ wp frame (wpE (defs₀ (F := F)) 𝒱₀ c none) Set.univ (.op (.semWait s 2) k) Q) := by
  unfold owesE
  iintro ⟨#HI, #Hlev, Hc, ⟨%W, HO⟩, Hat⟩ Hk
  iapply (Rounds.wp_wait_rest_token 𝒱₀ ER (Rd I) (c : Thread nD τ) none (κ := K ((c : Thread nD τ), .reg s))
      (wpE_semWait_eq 𝒱₀ (c : Thread nD τ) none Set.univ) (Set.mem_univ _) () (O := owed c r) (W := W) (R := 0) (m := 0) (T := ∅)
      ((Nat.zero_add _).trans (expect_reg I c s).symm)) $$ [Hc HO Hat]
  · isplitr; · iexact HI
    isplitl [Hc]; · iexact Hc
    isplitl [HO]; · iexact HO
    isplitr; · iapply (mayWait_owed (F := F) c (.reg s) r b hb hr); iexact Hlev
    iexact Hat
  iintro ⟨HO, Hat, -, Hpay⟩
  imod (Rounds.cell_close ER (Rd I) (Set.mem_univ (K ((c : Thread nD τ), .reg s))) id (duties_later I ((c : Thread nD τ), .reg s))) $$ [Hat] with Hv
  · isplitr; · iexact HI
    iexact Hat
  iapply Hk
  isplitl [HO]; · iexists _; iexact HO
  isplitl [Hv]; · iexact Hv
  iexact Hpay

end Cert.KernelIdeal.Moe
-- ==== Proof.KI.Halves.lean ====
/-
Buffers held by halves and by shares, and what a copy into a half leaves there.
-/
module

public import proofs.«01_k».proof.Proof.KI.Reads
public import proofs.«01_k».proof.Proof.KI.Steps

@[expose] public section

set_option maxRecDepth 16384

noncomputable section

namespace Cert.KernelIdeal.Moe

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- A whole buffer on device c, at share q and contents f. -/
abbrev wpt {s : Shape} {e : EltTy} (M : Memref sig .tc .vmem s e) (c : Dev nD) (q : PosShare TreeShare) (f : Buf (Elt F) (M.view.loc (c : Thread nD τ))) : sProp 𝕄 :=
  M.view.loc (c : Thread nD τ) ↦{q} f

/-- For a memref that is a whole buffer, holding its elements is holding the buffer. -/
theorem mpt_eq {s : Shape} {e : EltTy} (M : Memref sig .tc .vmem s e) (h : M.view.set = Finset.univ) (c : Dev nD) (q : PosShare TreeShare) (f : Buf (Elt F) (M.view.loc (c : Thread nD τ))) :
    (mpt M c q f : sProp 𝕄) = wpt M c q f := by unfold mpt wpt; rw [h]

/-- The left and the right share of a memref's elements. -/
theorem mpt_shares {s : Shape} {e : EltTy} (M : Memref sig .tc .vmem s e) (c : Dev nD) (q : PosShare TreeShare) (f : Buf (Elt F) (M.view.loc (c : Thread nD τ))) :
    (mpt M c q f : sProp 𝕄) ⊣⊢ iprop(mpt M c q.left f ∗ mpt M c q.right f) := pointsTo_share (PosShare.mem_left_op_right q)

/-- Row 0 and row 1 of the first axis. -/
theorem cover_half {n : ℕ} (i0 i1) :
    (Rect.unit (s := ⟨3, ![2, 1024, n]⟩) ![0, 0, 0] ![1, 1024, n] i0).set ∪ (Rect.unit (s := ⟨3, ![2, 1024, n]⟩) ![1, 0, 0] ![1, 1024, n] i1).set = Finset.univ := by
  refine Finset.eq_univ_iff_forall.mpr fun y => ?_
  have y0 : (y 0).val < 2 := (y 0).isLt
  have y1 : (y 1).val < 1024 := (y 1).isLt
  have y2 : (y 2).val < n := (y 2).isLt
  rw [Finset.mem_union, Rect.mem_set_unit, Rect.mem_set_unit]
  rcases Nat.lt_or_ge (y 0).val 1 with h | h
  · refine .inl fun a => ?_
    match a with
    | 0 => exact ⟨Nat.zero_le _, (show (y 0).val < 0 + 1 by omega)⟩
    | 1 => exact ⟨Nat.zero_le _, (show (y 1).val < 0 + 1024 by omega)⟩
    | 2 => exact ⟨Nat.zero_le _, (show (y 2).val < 0 + n by omega)⟩
  · refine .inr fun a => ?_
    match a with
    | 0 => exact ⟨h, (show (y 0).val < 1 + 1 by omega)⟩
    | 1 => exact ⟨Nat.zero_le _, (show (y 1).val < 0 + 1024 by omega)⟩
    | 2 => exact ⟨Nat.zero_le _, (show (y 2).val < 0 + n by omega)⟩

/-- The two halves of a block share no element. -/
theorem disj_half {n : ℕ} (i0 i1) :
    Disjoint (Rect.unit (s := ⟨3, ![2, 1024, n]⟩) ![0, 0, 0] ![1, 1024, n] i0).set (Rect.unit (s := ⟨3, ![2, 1024, n]⟩) ![1, 0, 0] ![1, 1024, n] i1).set := by
  refine Finset.disjoint_left.mpr fun y h h' => ?_
  have a := (Rect.mem_set_unit.mp h 0).2
  have b := (Rect.mem_set_unit.mp h' 0).1
  have a' : (y 0).val < 0 + 1 := a
  have b' : 1 ≤ (y 0).val := b
  omega

section
variable (c : Dev nD) (q : PosShare TreeShare)

/-- A memref whose elements are parted in two is held as its two parts. -/
theorem map_split {s : Shape} {e : EltTy} (M : Memref sig .tc .vmem s e) {A B : Finset s.Idx} {I₀ I₁ : Finset M.view.ty.Idx} (h : A ∪ B = Finset.univ) (hd : Disjoint A B)
    (h0 : I₀ = A.map M.view.emb) (h1 : I₁ = B.map M.view.emb) (f : Buf (Elt F) (M.view.loc (c : Thread nD τ))) :
    (mpt M c q f : sProp 𝕄) ⊣⊢ iprop((M.view.loc (c : Thread nD τ) ↦[I₀]{q} f) ∗ (M.view.loc (c : Thread nD τ) ↦[I₁]{q} f)) := by
  subst h0 h1
  have e : M.view.set = A.map M.view.emb ∪ B.map M.view.emb := by rw [← Finset.map_union, h]; rfl
  unfold mpt; rw [e]
  exact pointsTo_union ((Finset.disjoint_map M.view.emb).mpr hd)

/-- A buffer of two blocks is its two halves. -/
theorem x_halves (M : Memref sig .tc .vmem S2x1024x512 .bf16) (f : Buf (Elt F) (M.view.loc (c : Thread nD τ))) :
    (mpt M c q f : sProp 𝕄) ⊣⊢ iprop(mpt (x0 M) c q f ∗ mpt (x1 M) c q f) :=
  map_split c q M (cover_half _ _) (disj_half inb_S2x1024x512_S1x1024x512_0_0_0 inb_S2x1024x512_S1x1024x512_1_0_0)
    ((View.set_reshape _ _).trans (View.set_slice _ _)) ((View.set_reshape _ _).trans (View.set_slice _ _)) f
/-- A block of gates is its two halves. -/
theorem w_halves (M : Memref sig .tc .vmem S2x1024x32 .bf16) (f : Buf (Elt F) (M.view.loc (c : Thread nD τ))) :
    (mpt M c q f : sProp 𝕄) ⊣⊢ iprop(mpt (w0 M) c q f ∗ mpt (w1 M) c q f) :=
  map_split c q M (cover_half _ _) (disj_half inb_S2x1024x32_S1x1024x32_0_0_0 inb_S2x1024x32_S1x1024x32_1_0_0)
    ((View.set_reshape _ _).trans (View.set_slice _ _)) ((View.set_reshape _ _).trans (View.set_slice _ _)) f
/-- A block of contributions is its two halves. -/
theorem c_halves (M : Memref sig .tc .vmem S2x1024x1024 .bf16) (f : Buf (Elt F) (M.view.loc (c : Thread nD τ))) :
    (mpt M c q f : sProp 𝕄) ⊣⊢ iprop(mpt (c0 M) c q f ∗ mpt (c1 M) c q f) :=
  map_split c q M (cover_half _ _) (disj_half inb_S2x1024x1024_S1x1024x1024_0_0_0 inb_S2x1024x1024_S1x1024x1024_1_0_0)
    ((View.set_reshape _ _).trans (View.set_slice _ _)) ((View.set_reshape _ _).trans (View.set_slice _ _)) f

/-- The token block is its lower and its upper rows. -/
theorem own_halves (f : Buf (Elt F) (xM.view.loc (c : Thread nD τ))) :
    (mpt xM c q f : sProp 𝕄) ⊣⊢ iprop(mpt xLo c q f ∗ mpt xHi c q f) := by
  refine map_split c q xM (A := (Rect.unit (s := S2048x512) ![0, 0] S1024x512.size inb_S2048x512_S1024x512_0_0).set)
    (B := (Rect.unit (s := S2048x512) ![1024, 0] S1024x512.size inb_S2048x512_S1024x512_1024_0).set) ?_ ?_ (View.set_slice _ _) (View.set_slice _ _) f
  · refine Finset.eq_univ_iff_forall.mpr fun y => ?_
    have y0 : (y 0).val < 2048 := (y 0).isLt
    have y1 : (y 1).val < 512 := (y 1).isLt
    rw [Finset.mem_union, Rect.mem_set_unit, Rect.mem_set_unit]
    rcases Nat.lt_or_ge (y 0).val 1024 with h | h
    · refine .inl fun a => ?_
      match a with
      | 0 => exact ⟨Nat.zero_le _, (show (y 0).val < 0 + 1024 by omega)⟩
      | 1 => exact ⟨Nat.zero_le _, (show (y 1).val < 0 + 512 by omega)⟩
    · refine .inr fun a => ?_
      match a with
      | 0 => exact ⟨h, (show (y 0).val < 1024 + 1024 by omega)⟩
      | 1 => exact ⟨Nat.zero_le _, (show (y 1).val < 0 + 512 by omega)⟩
  · refine Finset.disjoint_left.mpr fun y h h' => ?_
    have a : (y 0).val < 0 + 1024 := (Rect.mem_set_unit.mp h 0).2
    have b : 1024 ≤ (y 0).val := (Rect.mem_set_unit.mp h' 0).1
    omega

end

/-- Half h of a memref reads as half h of what the whole reads. -/
theorem read_half {n : ℕ} {e : EltTy} (M : Memref sig .tc .vmem ⟨3, ![2, 1024, n]⟩ e) (h : Fin 2) (inb) (hr)
    (hq : (⟨3, ![1, 1024, n]⟩ : Shape).Squeezes ⟨2, ![1024, n]⟩) (f : M.view.ty.Contents (Elt F)) :
    ((M.slice (Rect.unit (s := ⟨3, ![2, 1024, n]⟩) ![h.val, 0, 0] ![1, 1024, n] inb) hr).squeeze ⟨2, ![1024, n]⟩ hq).view.read (Elt F) f
      = half (M.view.read (Elt F) f) h := by
  funext j
  obtain ⟨a, b, rfl⟩ : ∃ (a : Fin 1024) (b : Fin n), j = ix2 a b := ⟨j 0, j 1, eq_ix2 j⟩
  have k : ∀ hn, Shape.reshapeEquiv (s := ⟨3, ![1, 1024, n]⟩) (s' := ⟨2, ![1024, n]⟩) hn (ix2 a b) = ix3 (0 : Fin 1) a b := fun hn =>
    Shape.reshapeEquiv_eq_of_rowMajor hn (by
      rw [Shape.rowMajor_val_three, Shape.rowMajor_val_two]
      show (0 * 1024 + a.val) * n + b.val = a.val * n + b.val
      rw [Nat.zero_mul, Nat.zero_add])
  refine (show _ = M.view.read (Elt F) f ((Rect.unit (s := ⟨3, ![2, 1024, n]⟩) ![h.val, 0, 0] ![1, 1024, n] inb).emb
    (Shape.reshapeEquiv (s := ⟨3, ![1, 1024, n]⟩) (s' := ⟨2, ![1024, n]⟩) hq.numel_eq (ix2 a b))) from rfl).trans ?_
  rw [k]
  refine congrArg (M.view.read (Elt F) f) (funext fun k => ?_)
  match k with
  | 0 => exact Fin.ext (show h.val + 1 * 0 = h.val by omega)
  | 1 => exact Fin.ext (show 0 + 1 * a.val = a.val by omega)
  | 2 => exact Fin.ext (show 0 + 1 * b.val = b.val by omega)

/-- The first half of a token buffer reads the first half of its contents. -/
theorem read_x0 (M : Memref sig .tc .vmem S2x1024x512 .bf16) (f : M.view.ty.Contents (Elt F)) : (x0 M).view.read (Elt F) f = half (M.view.read (Elt F) f) 0 := read_half M 0 _ _ _ f
/-- The second half of a token buffer reads the second half of its contents. -/
theorem read_x1 (M : Memref sig .tc .vmem S2x1024x512 .bf16) (f : M.view.ty.Contents (Elt F)) : (x1 M).view.read (Elt F) f = half (M.view.read (Elt F) f) 1 := read_half M 1 _ _ _ f
/-- The first half of a gate buffer reads the first half of its contents. -/
theorem read_w0 (M : Memref sig .tc .vmem S2x1024x32 .bf16) (f : M.view.ty.Contents (Elt F)) : (w0 M).view.read (Elt F) f = half (M.view.read (Elt F) f) 0 := read_half M 0 _ _ _ f
/-- The second half of a gate buffer reads the second half of its contents. -/
theorem read_w1 (M : Memref sig .tc .vmem S2x1024x32 .bf16) (f : M.view.ty.Contents (Elt F)) : (w1 M).view.read (Elt F) f = half (M.view.read (Elt F) f) 1 := read_half M 1 _ _ _ f
/-- The first half of a contribution buffer reads the first half of its contents. -/
theorem read_c0 (M : Memref sig .tc .vmem S2x1024x1024 .bf16) (f : M.view.ty.Contents (Elt F)) : (c0 M).view.read (Elt F) f = half (M.view.read (Elt F) f) 0 := read_half M 0 _ _ _ f
/-- The second half of a contribution buffer reads the second half of its contents. -/
theorem read_c1 (M : Memref sig .tc .vmem S2x1024x1024 .bf16) (f : M.view.ty.Contents (Elt F)) : (c1 M).view.read (Elt F) f = half (M.view.read (Elt F) f) 1 := read_half M 1 _ _ _ f

/-- The lower rows of a device's tokens are the first half of its two blocks, the upper rows the second. -/
theorem read_xLo (d : Dev nD) : xLo.view.read (Elt F) (I.x d) = half (I.xb d) 0 := by
  funext j
  refine congrArg (I.x d) (funext fun a => ?_)
  match a with
  | 0 => exact Fin.ext (show 0 + 1 * (j 0).val = 1024 * 0 + (j 0).val by omega)
  | 1 => exact Fin.ext (show 0 + 1 * (j 1).val = (j 1).val by omega)
/-- The upper rows of the device's tokens are the second half of its block. -/
theorem read_xHi (d : Dev nD) : xHi.view.read (Elt F) (I.x d) = half (I.xb d) 1 := by
  funext j
  refine congrArg (I.x d) (funext fun a => ?_)
  match a with
  | 0 => exact Fin.ext (show 1024 + 1 * (j 0).val = 1024 * 1 + (j 0).val by omega)
  | 1 => exact Fin.ext (show 0 + 1 * (j 1).val = (j 1).val by omega)

/-- What a copy leaves in its destination: contents that read as the copied block. -/
theorem land {s : Shape} {e : EltTy} (dst : Memref sig .tc .vmem s e) (c' : Dev nD) (w : s.Idx → Elt F e) (G fd : Buf (Elt F) (dst.view.loc (c' : Thread nD τ)))
    (h : w = dst.view.read (Elt F) G) :
    (mpt dst c' fullShare (dst.view.write (Elt F) fd w Finset.univ) : sProp 𝕄) ⊢ mpt dst c' fullShare G := by
  subst h
  refine Entails.of_eq (pointsTo_congr fun i hi => ?_)
  obtain ⟨x, _, rfl⟩ := Finset.mem_map.mp hi
  have := congrFun (View.read_write_univ (v := dst.view) (Val := Elt F) fd (dst.view.read (Elt F) G)) x
  rw [View.read_apply, View.read_apply] at this
  exact (cast_inj _).mp this

/-- A buffer whole at contents not named. -/
theorem mAny_intro {s : Shape} {e : EltTy} (M : Memref sig .tc .vmem s e) (c : Dev nD) (f : Buf (Elt F) (M.view.loc (c : Thread nD τ))) :
    (mpt M c fullShare f : sProp 𝕄) ⊢ mAny M c := by
  unfold mAny; iintro H; iexists f; iexact H

/-- A whole buffer with unknown contents has some contents. -/
theorem mAny_elim {s : Shape} {e : EltTy} (M : Memref sig .tc .vmem s e) (h : M.view.set = Finset.univ) (c : Dev nD) :
    (mAny M c : sProp 𝕄) ⊢ iprop(∃ f : Buf (Elt F) (M.view.loc (c : Thread nD τ)), wpt M c fullShare f) := by
  unfold mAny; iintro ⟨%f, H⟩; iexists f; rw [← mpt_eq M h]; iexact H

/-- A whole buffer with known contents, its contents forgotten. -/
theorem mAny_intro_whole {s : Shape} {e : EltTy} (M : Memref sig .tc .vmem s e) (h : M.view.set = Finset.univ) (c : Dev nD) (f : Buf (Elt F) (M.view.loc (c : Thread nD τ))) :
    (wpt M c fullShare f : sProp 𝕄) ⊢ mAny M c := by
  rw [← mpt_eq M h]; exact mAny_intro M c f

end Cert.KernelIdeal.Moe
-- ==== Proof.KI.Segs.lean ====
/-
The kernel's body cut into phases: the exchange of tokens and gates, the contributions to the right, opposite and left device's tokens,
the device's own contribution, and the sums and closing barrier.
-/
module

public import proofs.«01_k».proof.Proof.KI.Base

@[expose] public section

set_option maxRecDepth 16384

noncomputable section

namespace Cert.KernelIdeal.Moe

open Idealize.ShloMosaic
open Idealize.ShloMosaic.TcCoe
open Idealize.SL.Sem
open Cert.KernelIdeal Cert.KernelIdeal.Gen

variable {F : FTy → Type} [FloatOps F]

/-- Programs of one core. -/
abbrev P (F : FTy → Type) (α : Type) : Type 1 := Prog (TpuEff nD τ sig (Elt F) Λ₀ .tc) α

/-- A part of the body at the kernel's own buffers and semaphores. -/
abbrev atBufs {β : Type 1} (f : ∀
      (arg0 : Memref sig .tc .vmem S2048x512 .bf16) (harg0 : arg0.IsWhole) (arg1 : Memref sig .tc .vmem S512x32 .bf16) (harg1 : arg1.IsWhole)
      (arg2 : Memref sig .tc .vmem S2048x2 .i32) (harg2 : arg2.IsWhole) (arg3 : Memref sig .tc .vmem S4096x1024 .bf16) (harg3 : arg3.IsWhole)
      (arg4 : Memref sig .tc .vmem S2048x1024 .f32) (harg4 : arg4.IsWhole) (arg5 : Memref sig .tc .vmem S2x1024x512 .bf16) (harg5 : arg5.IsWhole)
      (arg6 : Memref sig .tc .vmem S2x1024x512 .bf16) (harg6 : arg6.IsWhole) (arg7 : Memref sig .tc .vmem S2x1024x512 .bf16) (harg7 : arg7.IsWhole)
      (arg8 : Memref sig .tc .vmem S2x1024x32 .bf16) (harg8 : arg8.IsWhole) (arg9 : Memref sig .tc .vmem S2x1024x32 .bf16) (harg9 : arg9.IsWhole)
      (arg10 : Memref sig .tc .vmem S2x1024x32 .bf16) (harg10 : arg10.IsWhole) (arg11 : Memref sig .tc .vmem S2x1024x32 .bf16)
      (harg11 : arg11.IsWhole) (arg12 : Memref sig .tc .vmem S2x1024x1024 .bf16) (harg12 : arg12.IsWhole)
      (arg13 : Memref sig .tc .vmem S2x1024x1024 .bf16) (harg13 : arg13.IsWhole) (arg14 : Memref sig .tc .vmem S2x1024x1024 .bf16)
      (harg14 : arg14.IsWhole) (arg15 : Memref sig .tc .vmem S1024x1024 .bf16) (harg15 : arg15.IsWhole)
      (arg16 : Memref sig .tc .vmem S1024x1024 .bf16) (harg16 : arg16.IsWhole) (arg17 : Memref sig .tc .vmem S2x1024x1024 .bf16)
      (harg17 : arg17.IsWhole) (arg18 : Memref sig .tc .vmem S2x1024x1024 .bf16) (harg18 : arg18.IsWhole) (arg19 : DmaSems sig S6)
      (arg20 : DmaSems sig S6) (arg21 : DmaSems sig S4) (arg22 : DmaSems sig S4) (arg23 : DmaSems sig S2) (arg24 : DmaSems sig S2)
      (arg25 : DmaSems sig S2) (arg26 : DmaSems sig S2) (v1564_r0 : Sems sig S_),
      β) : β :=
  f
    (Memref.whole cc0_stg0_0) (Memref.isWhole_whole _) (Memref.whole cc0_stg1_0) (Memref.isWhole_whole _) (Memref.whole cc0_stg2_0)
    (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7)
    (Memref.isWhole_whole _) (Memref.whole cc0_scratch8) (Memref.isWhole_whole _) (Memref.whole cc0_scratch9) (Memref.isWhole_whole _)
    (Memref.whole cc0_scratch10) (Memref.isWhole_whole _) (Memref.whole cc0_scratch11) (Memref.isWhole_whole _) (Memref.whole cc0_scratch12)
    (Memref.isWhole_whole _) (Memref.whole cc0_scratch13) (Memref.isWhole_whole _) cc0_scratch14 cc0_scratch15 cc0_scratch16 cc0_scratch17
    cc0_scratch18 cc0_scratch19 cc0_scratch20 cc0_scratch21 cc0_scoped0

/-- The opening barrier, the gates, and the exchange with both neighbours. -/
def segA (k : Dev nD → BitVec 32 → BitVec 32 → BitVec 32 → P F PUnit) : P F PUnit := do
  let ⟨d0, v2, v5, v7, v17, v24, v26, v29⟩ ← (atBufs (k0_part1 (F := F)) :)
  (atBufs (k0_part2 (F := F)) :) v7 v17 v24 v26 v29
  (atBufs (k0_part3 (F := F)) :) d0 v5 v7
  let v123 ← (atBufs (k0_part4 (F := F)) :) d0 v5 v7
  (atBufs (k0_part5 (F := F)) :) v5 v7 v123
  (atBufs (k0_part6 (F := F)) :) d0 v5 v7
  k d0 v2 v5 v7

/-- What the experts add for the right neighbour's tokens; then the opposite device's tokens and gates have arrived. -/
def segB (d0 : Dev nD) (v2 v5 v7 : BitVec 32) (k : FVec F S32x8 .bf16 → P F PUnit) : P F PUnit := do
  let ⟨v193, v195, v198, v215, v218⟩ ← (atBufs (k0_part7 (F := F)) :) d0 v2
  let ⟨v255, v259, v261⟩ ← (atBufs (k0_part8 (F := F)) :) v195 v198 v215 v218
  let ⟨v269, v272, v297, v299⟩ ← (atBufs (k0_part9 (F := F)) :) v193 v255 v259 v261
  let v341 ← (atBufs (k0_part10 (F := F)) :) v269 v272 v297 v299
  let ⟨v343, v346, v379, v380⟩ ← (atBufs (k0_part11 (F := F)) :) v193 v341
  let ⟨v417, v418⟩ ← (atBufs (k0_part12 (F := F)) :) v343 v346 v379 v380
  let ⟨v420, v461⟩ ← (atBufs (k0_part13 (F := F)) :) v193 v417 v418
  (atBufs (k0_part14 (F := F)) :) v7 v417 v420 v461
  (atBufs (k0_part15 (F := F)) :) v5 v7
  k v193

/-- What the experts add for the opposite device's tokens, sent half to each side. -/
def segC (d0 : Dev nD) (v5 v7 : BitVec 32) (v193 : FVec F S32x8 .bf16) (k : FVec F S512x512 .bf16 → FVec F S512x32 .bf16 → FVec F S512x8 .f32 → P F PUnit) : P F PUnit := do
  let ⟨v523, v526, v559, v563⟩ ← (atBufs (k0_part16 (F := F)) :) v193
  let ⟨v597, v600, cst_368⟩ ← (atBufs (k0_part17 (F := F)) :) v193 v523 v526 v559 v563
  let ⟨v641, v645⟩ ← (atBufs (k0_part18 (F := F)) :) v597 v600 cst_368
  let ⟨v671, v674, v675, v679, v681, cst_406⟩ ← (atBufs (k0_part19 (F := F)) :) v193 v597 v600 v641 v645
  let ⟨v723, v726⟩ ← (atBufs (k0_part20 (F := F)) :) v671 v674 v675 v679 v681 cst_406
  let ⟨v745, v748, v757, v761, v763⟩ ← (atBufs (k0_part21 (F := F)) :) v193 v671 v674 v723 v726
  let ⟨v805, v807⟩ ← (atBufs (k0_part22 (F := F)) :) v745 v748 v757 v761 v763
  let ⟨v835, v837, cst_486⟩ ← (atBufs (k0_part23 (F := F)) :) d0 v5 v7 v745 v805 v807
  k v835 v837 cst_486

/-- What the experts add for the left neighbour's tokens; then the halves to pass on have arrived. -/
def segD (v5 v7 : BitVec 32) (v193 : FVec F S32x8 .bf16) (v835 : FVec F S512x512 .bf16) (v837 : FVec F S512x32 .bf16) (cst_486 : FVec F S512x8 .f32)
    (k : FVec F S1024x1024 .bf16 → P F PUnit) : P F PUnit := do
  let ⟨v838, v879, v881⟩ ← (atBufs (k0_part24 (F := F)) :) v193 v835 v837 cst_486
  let ⟨v909, v912, v913, v917, v918⟩ ← (atBufs (k0_part25 (F := F)) :) v193 v835 v838 v879 v881
  let ⟨v961, v962⟩ ← (atBufs (k0_part26 (F := F)) :) v909 v912 v913 v917 v918
  let ⟨v983, v986, v995, v999⟩ ← (atBufs (k0_part27 (F := F)) :) v193 v909 v912 v961 v962
  let v1043 ← (atBufs (k0_part28 (F := F)) :) v983 v986 v995 v999
  let ⟨v1057, v1060, v1077, v1081⟩ ← (atBufs (k0_part29 (F := F)) :) v193 v983 v986 v1043
  let ⟨v1117, v1124⟩ ← (atBufs (k0_part30 (F := F)) :) v1057 v1060 v1077 v1081
  let v1150 ← (atBufs (k0_part31 (F := F)) :) v5 v7 v1117 v1124
  k v1150

/-- The sums sent on to both sides, and what the experts add for the device's own tokens. -/
def segE (d0 : Dev nD) (v5 v7 : BitVec 32) (v193 : FVec F S32x8 .bf16) (v1150 : FVec F S1024x1024 .bf16) (k : FVec F S512x1024 .f32 → P F PUnit) : P F PUnit := do
  let ⟨v1169, v1172, v1181, v1185⟩ ← (atBufs (k0_part32 (F := F)) :) d0 v5 v7 v193 v1150
  let ⟨v1221, v1228⟩ ← (atBufs (k0_part33 (F := F)) :) v1169 v1172 v1181 v1185
  let ⟨v1240, v1243, v1260, v1264, v1266, cst_706⟩ ← (atBufs (k0_part34 (F := F)) :) v193 v1169 v1172 v1221 v1228
  let v1308 ← (atBufs (k0_part35 (F := F)) :) v1240 v1243 v1260 v1264 v1266 cst_706
  let ⟨v1311, v1314, v1347, v1349⟩ ← (atBufs (k0_part36 (F := F)) :) v193 v1308
  let ⟨v1382, v1385, v1386, v1387⟩ ← (atBufs (k0_part37 (F := F)) :) v193 v1311 v1314 v1347 v1349
  let ⟨v1426, v1430⟩ ← (atBufs (k0_part38 (F := F)) :) v1382 v1385 v1386 v1387
  let v1465 ← (atBufs (k0_part39 (F := F)) :) v5 v7 v1382 v1385 v1426 v1430
  k v1465

/-- The neighbours' sums added to the own contribution, the waits for everything sent, and the closing barrier's two signals. -/
def segF (d0 : Dev nD) (v1465 : FVec F S512x1024 .f32) : P F PUnit := do
  let v1494 ← (atBufs (k0_part40 (F := F)) :) v1465
  (atBufs (k0_part41 (F := F)) :) v1494
  (atBufs (k0_part42 (F := F)) :)
  (atBufs (k0_part43 (F := F)) :)
  Prog.lift (.waitDma2 ((cc0_scratch20.slice (Rect.unit (s := S2) ![1] S1.size inb_S2_S1_1)).squeeze S_ squeezes_S1_S_).sem rrM clM
    (Memref.isWhole_whole (κ := .tc) cc0_scratch13).wordExact (Memref.isWhole_whole (κ := .tc) cc0_scratch9).wordExact)
  semSignalWord (⟨k0_dev17 d0, k0_dev17_lt d0⟩ : Dev nD) cc0_scoped0.sem 1#32
  semSignalWord (⟨k0_dev18 d0, k0_dev18_lt d0⟩ : Dev nD) cc0_scoped0.sem 1#32
  pure ⟨⟩

/-- The phases one after another. -/
def phases : P F PUnit :=
  segA fun d0 v2 v5 v7 => segB d0 v2 v5 v7 fun v193 => segC d0 v5 v7 v193 fun v835 v837 cst => segD v5 v7 v193 v835 v837 cst fun v1150 =>
    segE d0 v5 v7 v193 v1150 fun v1465 => segF d0 v1465

/-- The kernel's body, at its own buffers. -/
abbrev body : P F PUnit := (atBufs (cc0_body (F := F)) :)

/-- The body is its six stretches and the last wait. -/
theorem body_eq : (body : P F PUnit) = phases >>= fun _ => (do semWaitWord (cc0_scoped0 : Sems sig S_).sem 2#32; pure ⟨⟩) := rfl

end Cert.KernelIdeal.Moe
-- ==== Proof.KI.Ctx.lean ====
/-
What the phases share: the kernel's neighbours as the two sides of the ring, the standing facts, and short names for the tokens and the
credits of a semaphore.
-/
module

public import proofs.«01_k».proof.Proof.KI.Halves
public import proofs.«01_k».proof.Proof.KI.Segs

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

section
variable (d : Dev nD)
/-- The peer that is computed in place 1 is the left neighbour. -/
theorem dv1 : (⟨k0_dev1 d, k0_dev1_lt d⟩ : Dev nD) = lf d := Fin.ext (k0_dev1_eq d)
/-- The peer that is computed in place 2 is the right neighbour. -/
theorem dv2 : (⟨k0_dev2 d, k0_dev2_lt d⟩ : Dev nD) = rt d := Fin.ext (k0_dev2_eq d)
/-- The peer that is computed in place 3 is the right neighbour. -/
theorem dv3 : (⟨k0_dev3 d, k0_dev3_lt d⟩ : Dev nD) = rt d := Fin.ext (k0_dev3_eq d)
/-- The peer that is computed in place 4 is the right neighbour. -/
theorem dv4 : (⟨k0_dev4 d, k0_dev4_lt d⟩ : Dev nD) = rt d := Fin.ext (k0_dev4_eq d)
/-- The peer that is computed in place 5 is the left neighbour. -/
theorem dv5 : (⟨k0_dev5 d, k0_dev5_lt d⟩ : Dev nD) = lf d := Fin.ext (k0_dev5_eq d)
/-- The peer that is computed in place 6 is the left neighbour. -/
theorem dv6 : (⟨k0_dev6 d, k0_dev6_lt d⟩ : Dev nD) = lf d := Fin.ext (k0_dev6_eq d)
/-- The peer that is computed in place 7 is the right neighbour. -/
theorem dv7 : (⟨k0_dev7 d, k0_dev7_lt d⟩ : Dev nD) = rt d := Fin.ext (k0_dev7_eq d)
/-- The peer that is computed in place 8 is the left neighbour. -/
theorem dv8 : (⟨k0_dev8 d, k0_dev8_lt d⟩ : Dev nD) = lf d := Fin.ext (k0_dev8_eq d)
/-- The peer that is computed in place 9 is the right neighbour. -/
theorem dv9 : (⟨k0_dev9 d, k0_dev9_lt d⟩ : Dev nD) = rt d := Fin.ext (k0_dev9_eq d)
/-- The peer that is computed in place 10 is the left neighbour. -/
theorem dv10 : (⟨k0_dev10 d, k0_dev10_lt d⟩ : Dev nD) = lf d := Fin.ext (k0_dev10_eq d)
/-- The peer that is computed in place 11 is the right neighbour. -/
theorem dv11 : (⟨k0_dev11 d, k0_dev11_lt d⟩ : Dev nD) = rt d := Fin.ext (k0_dev11_eq d)
/-- The peer that is computed in place 12 is the left neighbour. -/
theorem dv12 : (⟨k0_dev12 d, k0_dev12_lt d⟩ : Dev nD) = lf d := Fin.ext (k0_dev12_eq d)
/-- The peer that is computed in place 13 is the right neighbour. -/
theorem dv13 : (⟨k0_dev13 d, k0_dev13_lt d⟩ : Dev nD) = rt d := Fin.ext (k0_dev13_eq d)
/-- The peer that is computed in place 14 is the left neighbour. -/
theorem dv14 : (⟨k0_dev14 d, k0_dev14_lt d⟩ : Dev nD) = lf d := Fin.ext (k0_dev14_eq d)
/-- The peer that is computed in place 15 is the right neighbour. -/
theorem dv15 : (⟨k0_dev15 d, k0_dev15_lt d⟩ : Dev nD) = rt d := Fin.ext (k0_dev15_eq d)
/-- The peer that is computed in place 16 is the left neighbour. -/
theorem dv16 : (⟨k0_dev16 d, k0_dev16_lt d⟩ : Dev nD) = lf d := Fin.ext (k0_dev16_eq d)
/-- The peer that is computed in place 17 is the left neighbour. -/
theorem dv17 : (⟨k0_dev17 d, k0_dev17_lt d⟩ : Dev nD) = lf d := Fin.ext (k0_dev17_eq d)
/-- The peer that is computed in place 18 is the right neighbour. -/
theorem dv18 : (⟨k0_dev18 d, k0_dev18_lt d⟩ : Dev nD) = rt d := Fin.ext (k0_dev18_eq d)
end

/-- The standing facts: the cells' invariants, the order of the waits, and that round 0 is open on the device and on both neighbours. -/
def ctx (K : GSem nD τ sig → ℕ) (c : Dev nD) : sProp 𝕄 :=
  iprop(invAll I K ∗ levAts L lv ∗ reachedAll c ∗ reachedAll (rt c) ∗ reachedAll (lf c))

instance (K : GSem nD τ sig → ℕ) (c : Dev nD) : BI.Persistent (ctx I K c) := by unfold ctx; infer_instance

/-- The right to make the payment to semaphore n of device c. -/
def tk (c : Dev nD) (n : DmaSem sig) : sProp 𝕄 := dutyTok ER (dCell c n) 0 false
/-- The owner's position at semaphore n. -/
def ap (c : Dev nD) (n : DmaSem sig) : sProp 𝕄 := atPos ER (dCell c n) 0 ∅ 0
/-- The credit for waiting for semaphore n. -/
def cd (c : Dev nD) (n : DmaSem sig) : sProp 𝕄 := cred (tallyAt (dCell c n) () (amtOf n.val))
/-- Semaphore n back in hand at zero. -/
def sv (c : Dev nD) (n : DmaSem sig) : sProp 𝕄 := semVal (dCell c n) 0

/-- A copy to the right neighbour. -/
theorem xferR {α : Type} {Q : α → sProp 𝕄} (K : GSem nD τ sig → ℕ) (c c' : Dev nD) (hc : c' = rt c) {s : Shape} {e : EltTy} (src dst : Memref sig .tc .vmem s e)
    (n₁ n₂ : DmaSem sig) {h1 : src.view.WordExact} {h2 : dst.view.WordExact} {hsc : dst.view.ref.isScScratch = false}
    {h3 : DmaTarget.Typed .vmem (.dma n₂) (.remote (Dev.tc c' : Thread nD τ) dst (.dma n₁) hsc)}
    {k : PUnit → Prog (TpuEff nD τ sig (Elt F) Λ₀ .tc) α} (q : PosShare TreeShare) (fs : Buf (Elt F) (src.view.loc (c : Thread nD τ)))
    (G : Buf (Elt F) (dst.view.loc (rt c : Thread nD τ))) (r : ℕ)
    (hn₁ : 5 ≤ n₁.val) (hn₂ : 5 ≤ n₂.val) (hN : dst.view.dmaCredit = amtOf n₂.val) (hA : amtOf n₁.val = amtOf n₂.val)
    (hd : debt c (17 - r) = (dCell (rt c) n₂, amtOf n₂.val))
    (hpay₁ : (mpt src c q fs : sProp 𝕄) = dmaPay I c n₁.val) (hpay₂ : (mpt dst (rt c) fullShare G : sProp 𝕄) = dmaPay I (rt c) n₂.val)
    (hG : src.view.read (Elt F) fs = dst.view.read (Elt F) G) :
    iprop(ctx I K c ∗ mpt src c q fs ∗ mAny dst (rt c) ∗ owesE c (r + 1) ∗ tk c n₁ ∗ tk (rt c) n₂)
      ⊢ iprop(((cd c n₁ ∗ owesE c r) -∗ wp frame (wpE (defs₀ (F := F)) 𝒱₀ c none) Set.univ (k ⟨⟩) Q)
        -∗ wp frame (wpE (defs₀ (F := F)) 𝒱₀ c none) Set.univ (.op (.enqueueDma src (.remote (Dev.tc c') dst (.dma n₁) hsc) (.dma n₂) h1 h2 h3) k) Q) := by
  subst hc
  unfold ctx tk cd
  iintro ⟨⟨#HI, #Hl, #HR, #HRr, #HRl⟩, Hs, Hd, HO, Ht1, Ht2⟩ Hk
  iapply (wp_xfer I K c (rt c) r hn₁ hn₂ hN hA hd (Entails.of_eq hpay₁) (fun fd => (land dst (rt c) _ G fd hG).trans (Entails.of_eq hpay₂)) (q := q) (fs := fs)) $$ [Hs Hd HO Ht1 Ht2] Hk
  isplitr; · iexact HI
  isplitr; · iexact HR
  isplitr; · iexact HRr
  isplitl [Hs]; · iexact Hs
  isplitl [Hd]; · iexact Hd
  isplitl [HO]; · iexact HO
  isplitl [Ht1]; · iexact Ht1
  iexact Ht2

/-- A copy to the left neighbour. -/
theorem xferL {α : Type} {Q : α → sProp 𝕄} (K : GSem nD τ sig → ℕ) (c c' : Dev nD) (hc : c' = lf c) {s : Shape} {e : EltTy} (src dst : Memref sig .tc .vmem s e)
    (n₁ n₂ : DmaSem sig) {h1 : src.view.WordExact} {h2 : dst.view.WordExact} {hsc : dst.view.ref.isScScratch = false}
    {h3 : DmaTarget.Typed .vmem (.dma n₂) (.remote (Dev.tc c' : Thread nD τ) dst (.dma n₁) hsc)}
    {k : PUnit → Prog (TpuEff nD τ sig (Elt F) Λ₀ .tc) α} (q : PosShare TreeShare) (fs : Buf (Elt F) (src.view.loc (c : Thread nD τ)))
    (G : Buf (Elt F) (dst.view.loc (lf c : Thread nD τ))) (r : ℕ)
    (hn₁ : 5 ≤ n₁.val) (hn₂ : 5 ≤ n₂.val) (hN : dst.view.dmaCredit = amtOf n₂.val) (hA : amtOf n₁.val = amtOf n₂.val)
    (hd : debt c (17 - r) = (dCell (lf c) n₂, amtOf n₂.val))
    (hpay₁ : (mpt src c q fs : sProp 𝕄) = dmaPay I c n₁.val) (hpay₂ : (mpt dst (lf c) fullShare G : sProp 𝕄) = dmaPay I (lf c) n₂.val)
    (hG : src.view.read (Elt F) fs = dst.view.read (Elt F) G) :
    iprop(ctx I K c ∗ mpt src c q fs ∗ mAny dst (lf c) ∗ owesE c (r + 1) ∗ tk c n₁ ∗ tk (lf c) n₂)
      ⊢ iprop(((cd c n₁ ∗ owesE c r) -∗ wp frame (wpE (defs₀ (F := F)) 𝒱₀ c none) Set.univ (k ⟨⟩) Q)
        -∗ wp frame (wpE (defs₀ (F := F)) 𝒱₀ c none) Set.univ (.op (.enqueueDma src (.remote (Dev.tc c') dst (.dma n₁) hsc) (.dma n₂) h1 h2 h3) k) Q) := by
  subst hc
  unfold ctx tk cd
  iintro ⟨⟨#HI, #Hl, #HR, #HRr, #HRl⟩, Hs, Hd, HO, Ht1, Ht2⟩ Hk
  iapply (wp_xfer I K c (lf c) r hn₁ hn₂ hN hA hd (Entails.of_eq hpay₁) (fun fd => (land dst (lf c) _ G fd hG).trans (Entails.of_eq hpay₂)) (q := q) (fs := fs)) $$ [Hs Hd HO Ht1 Ht2] Hk
  isplitr; · iexact HI
  isplitr; · iexact HR
  isplitr; · iexact HRl
  isplitl [Hs]; · iexact Hs
  isplitl [Hd]; · iexact Hd
  isplitl [HO]; · iexact HO
  isplitl [Ht1]; · iexact Ht1
  iexact Ht2

/-- A wait for a copy into the device or for one of its own copies. -/
theorem waitD {α : Type} {Q : α → sProp 𝕄} (K : GSem nD τ sig → ℕ) (c : Dev nD) {s s' : Shape} {e e' : EltTy} (src : Memref sig .tc .vmem s' e') (dst : Memref sig .tc .vmem s e)
    (n : DmaSem sig) {h1 : src.view.WordExact} {h2 : dst.view.WordExact}
    {k : PUnit → Prog (TpuEff nD τ sig (Elt F) Λ₀ .tc) α} (r b : ℕ) (X : sProp 𝕄)
    (hn : 5 ≤ n.val) (hN : dst.view.dmaCredit = amtOf n.val) (hb : rankOf (.dma n) ≤ b)
    (hr : ∀ j < r, b < [1, 1, 2, 2, 2, 2, 2, 2, 3, 3, 3, 3, 4, 4, 5, 5, 6].getD (17 - j) 6) (hX : dmaPay I c n.val = X) :
    iprop(ctx I K c ∗ cd c n ∗ owesE c r ∗ ap c n)
      ⊢ iprop(((owesE c r ∗ sv c n ∗ X) -∗ wp frame (wpE (defs₀ (F := F)) 𝒱₀ c none) Set.univ (k ⟨⟩) Q)
        -∗ wp frame (wpE (defs₀ (F := F)) 𝒱₀ c none) Set.univ (.op (.waitDma2 n src dst h1 h2) k) Q) := by
  subst hX
  unfold ctx cd ap sv
  iintro ⟨⟨#HI, #Hl, #HR, #HRr, #HRl⟩, Hc, HO, Ha⟩ Hk
  iapply (wp_waitc I K c r b hn hN hb hr) $$ [Hc HO Ha] Hk
  isplitr; · iexact HI
  isplitr; · iexact Hl
  isplitl [Hc]; · iexact Hc
  isplitl [HO]; · iexact HO
  iexact Ha

/-- A signal to a neighbour's regular semaphore, the neighbour named by the kernel's own expression. -/
theorem sigD {α : Type} {Q : α → sProp 𝕄} (K : GSem nD τ sig → ℕ) (c c' c'' : Dev nD) (hc : c' = c'') (s : Sem sig) (d : Bool)
    {k : PUnit → Prog (TpuEff nD τ sig (Elt F) Λ₀ .tc) α} (r : ℕ) (hd : debt c (17 - r) = (((c'' : Thread nD τ), .reg s), 1)) :
    iprop(cellInv ER (Rd I) (K ((c'' : Thread nD τ), .reg s)) ((c'' : Thread nD τ), .reg s) ∗ owesE c (r + 1)
        ∗ dutyTok ER ((c'' : Thread nD τ), .reg s) 0 d ∗ (Rd I).payload ((c'' : Thread nD τ), .reg s) 0 d ∗ reached ER ((c'' : Thread nD τ), .reg s) 0)
      ⊢ iprop((owesE c r -∗ wp frame (wpE (defs₀ (F := F)) 𝒱₀ c none) Set.univ (k ⟨⟩) Q)
        -∗ wp frame (wpE (defs₀ (F := F)) 𝒱₀ c none) Set.univ (.op (.semSignal (Dev.tc c') s 1) k) Q) := by
  subst hc; exact wp_sig I K c c' d r hd

/-- The invariant of a device's closing cell, out of the standing facts. -/
theorem ctx_end (K : GSem nD τ sig → ℕ) (c d : Dev nD) : ctx I K c ⊢ cellInv ER (Rd I) (K (endCell d)) (endCell d) := by
  unfold ctx; iintro ⟨#HI, #Hl, #HR, #HRr, #HRl⟩; iapply (inv_end I K d) $$ HI
/-- The context has the levels. -/
theorem ctx_lev (K : GSem nD τ sig → ℕ) (c : Dev nD) : ctx I K c ⊢ levAts L lv := by
  unfold ctx; iintro ⟨#HI, #Hl, #HR, #HRr, #HRl⟩; iexact Hl
/-- The left neighbour's last counter is in its first round. -/
theorem ctx_lf (K : GSem nD τ sig → ℕ) (c : Dev nD) : ctx I K c ⊢ reached ER (endCell (lf c)) 0 := by
  unfold ctx; iintro ⟨#HI, #Hl, #HR, #HRr, #HRl⟩; iapply (reached_end (F := F) (lf c)) $$ HRl
/-- The right neighbour's last counter is in its first round. -/
theorem ctx_rt (K : GSem nD τ sig → ℕ) (c : Dev nD) : ctx I K c ⊢ reached ER (endCell (rt c)) 0 := by
  unfold ctx; iintro ⟨#HI, #Hl, #HR, #HRr, #HRl⟩; iapply (reached_end (F := F) (rt c)) $$ HRr

/-- A signal on the closing barrier. -/
theorem sigEndL {α : Type} {Q : α → sProp 𝕄} (K : GSem nD τ sig → ℕ) (c c' : Dev nD) (hc : c' = lf c)
    {k : PUnit → Prog (TpuEff nD τ sig (Elt F) Λ₀ .tc) α} :
    iprop(ctx I K c ∗ owesE c 2 ∗ dutyTok ER (endCell (lf c)) 0 true)
      ⊢ iprop((owesE c 1 -∗ wp frame (wpE (defs₀ (F := F)) 𝒱₀ c none) Set.univ (k ⟨⟩) Q)
        -∗ wp frame (wpE (defs₀ (F := F)) 𝒱₀ c none) Set.univ (.op (.semSignal (Dev.tc c') (1 : Sem sig) 1) k) Q) := by
  iintro ⟨#HC, HO, Ht⟩ Hk
  iapply (sigD I K c c' (lf c) hc (1 : Sem sig) true 1 rfl) $$ [HO Ht] Hk
  isplitr; · iapply (ctx_end I K c (lf c)) $$ HC
  isplitl [HO]; · iexact HO
  isplitl [Ht]; · iexact Ht
  isplitr; · iempintro
  iapply (ctx_lf I K c) $$ HC
/-- The last signal to the right neighbour pays the last of what the device owes. -/
theorem sigEndR {α : Type} {Q : α → sProp 𝕄} (K : GSem nD τ sig → ℕ) (c c' : Dev nD) (hc : c' = rt c)
    {k : PUnit → Prog (TpuEff nD τ sig (Elt F) Λ₀ .tc) α} :
    iprop(ctx I K c ∗ owesE c 1 ∗ dutyTok ER (endCell (rt c)) 0 false)
      ⊢ iprop((owesE c 0 -∗ wp frame (wpE (defs₀ (F := F)) 𝒱₀ c none) Set.univ (k ⟨⟩) Q)
        -∗ wp frame (wpE (defs₀ (F := F)) 𝒱₀ c none) Set.univ (.op (.semSignal (Dev.tc c') (1 : Sem sig) 1) k) Q) := by
  iintro ⟨#HC, HO, Ht⟩ Hk
  iapply (sigD I K c c' (rt c) hc (1 : Sem sig) false 0 rfl) $$ [HO Ht] Hk
  isplitr; · iapply (ctx_end I K c (rt c)) $$ HC
  isplitl [HO]; · iexact HO
  isplitl [Ht]; · iexact Ht
  isplitr; · iempintro
  iapply (ctx_rt I K c) $$ HC

/-- The wait for both neighbours on the closing barrier, which ends the kernel. -/
theorem waitEnd {Q : PUnit → sProp 𝕄} (K : GSem nD τ sig → ℕ) (c : Dev nD) :
    iprop(ctx I K c ∗ cred (tallyAt (endCell c) () 2) ∗ owesE c 0 ∗ atPos ER (endCell c) 0 ∅ 0
        ∗ ((owesE c 0 ∗ semVal (endCell c) 0) -∗ Q ⟨⟩))
      ⊢ wp frame (wpE (defs₀ (F := F)) 𝒱₀ c none) Set.univ (do semWaitWord (cc0_scoped0 : Sems sig S_).sem 2#32; pure ⟨⟩) Q := by
  iintro ⟨#HC, Hc, HO, Ha, Hk⟩
  simp only [semWaitWord, Prog.lift, Prog.bind_op, Prog.bind_ret, Prog.pure_eq_ret]
  iapply (wp_waits I K c (s := (1 : Sem sig)) 0 6 (by decide) (by intro j hj; exact absurd hj (Nat.not_lt_zero _))) $$ [Hc HO Ha]
  · isplitr; · iapply (ctx_end I K c c) $$ HC
    isplitr; · iapply (ctx_lev I K c) $$ HC
    isplitl [Hc]; · iexact Hc
    isplitl [HO]; · iexact HO
    iexact Ha
  iintro ⟨HO, Hs, -⟩
  rw [wp_ret]
  imodintro
  iapply Hk
  isplitl [HO]; · iexact HO
  iexact Hs

end Cert.KernelIdeal.Moe
-- ==== Proof.KI.PhaseA.lean ====
/-
The opening barrier, the gates, and the exchange of tokens and gates with both neighbours.
-/
module

public import proofs.«01_k».proof.Proof.KI.Ctx

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- The device's number, and its neighbours' numbers, as the kernel writes them. -/
abbrev numOf (c : Dev nD) : BitVec 32 := Scalar.remsi (Scalar.divsi (Dev.word c) 1#32) 4#32
abbrev numL (c : Dev nD) : BitVec 32 := Scalar.remsi (Scalar.addi (Scalar.subi (numOf c) 1#32) 4#32) 4#32
abbrev numR (c : Dev nD) : BitVec 32 := Scalar.remsi (Scalar.addi (numOf c) 1#32) 4#32

/-- The landing buffers handed to the left neighbour's barrier, as its payment. -/
theorem pay_barL (c : Dev nD) : (giveL c : sProp 𝕄) = (Rd I).payload (barCell (lf c)) 0 true := by
  show _ = giveL (rt (lf c)); rw [rt_lf]
/-- The landing buffers handed to the right neighbour's barrier, as its payment. -/
theorem pay_barR (c : Dev nD) : (giveR c : sProp 𝕄) = (Rd I).payload (barCell (rt c)) 0 false := by
  show _ = giveR (lf (rt c)); rw [lf_rt]

set_option maxHeartbeats 400000 in
/-- The first phase: the gates are made, and both neighbours' tokens and gates received. -/
theorem phaseA (K : GSem nD τ sig → ℕ) (c : Dev nD) (Q : PUnit → sProp 𝕄) (k : Dev nD → BitVec 32 → BitVec 32 → BitVec 32 → P F PUnit) :
    iprop(invAll I K ∗ levAts L lv ∗ reachedAll c ∗ reached ER (barCell (lf c)) 0 ∗ reached ER (barCell (rt c)) 0 ∗ owesE c 18 ∗ dutyTok ER (barCell (lf c)) 0 true
        ∗ dutyTok ER (barCell (rt c)) 0 false ∗ giveL c ∗ giveR c ∗ cred (tallyAt (barCell c) () 2) ∗ atPos ER (barCell c) 0 ∅ 0 ∗ wpt xM c fullShare (I.x c)
        ∗ wpt rwM c fullShare (I.rw c) ∗ wpt ixM c fullShare (I.ix c) ∗ mAny wsM c ∗ tk c 5 ∗ tk (rt c) 11 ∗ tk c 6 ∗ tk (rt c) 12 ∗ tk c 7 ∗ tk (lf c) 13 ∗ tk c 8
        ∗ tk (lf c) 14 ∗ tk c 9 ∗ tk (rt c) 15 ∗ tk c 10 ∗ tk (lf c) 16 ∗ tk c 17 ∗ tk (rt c) 21 ∗ tk c 18 ∗ tk (lf c) 22 ∗ tk c 19 ∗ tk (rt c) 23 ∗ (cd c 11 ∗ ap c 11)
        ∗ (cd c 12 ∗ ap c 12) ∗ (cd c 13 ∗ ap c 13) ∗ (cd c 14 ∗ ap c 14) ∗ (cd c 15 ∗ ap c 15) ∗ (cd c 16 ∗ ap c 16)
        ∗ ((ctx I K c ∗ owesE c 7 ∗ wpt xM c qL (I.x c) ∗ wpt rwM c fullShare (I.rw c) ∗ wpt ixM c fullShare (I.ix c) ∗ wpt wsM c qL (I.w c) ∗ wpt xlM c qL (I.xb (lf c))
        ∗ mpt (x1 xlM) c qR (I.xb (lf c)) ∗ wpt xrM c qL (I.xb (rt c)) ∗ mpt (x0 xrM) c qR (I.xb (rt c)) ∗ wpt wlM c qL (I.w (lf c)) ∗ mpt (w1 wlM) c qR (I.w (lf c))
        ∗ wpt wrM c fullShare (I.w (rt c)) ∗ mAny (w1 woM) (lf c) ∗ mAny hlM (rt c) ∗ mAny rlM (rt c) ∗ mAny hrM (lf c) ∗ mAny rrM (lf c) ∗ cd c 5 ∗ cd c 6 ∗ cd c 7 ∗ cd c 8
        ∗ cd c 9 ∗ cd c 10 ∗ cd c 17 ∗ cd c 18 ∗ cd c 19 ∗ sv c 11 ∗ sv c 12 ∗ sv c 13 ∗ sv c 14 ∗ sv c 15 ∗ sv c 16 ∗ semVal (barCell c) 0)
          -∗ wp frame (wpE (defs₀ (F := F)) 𝒱₀ c none) Set.univ (k c (numOf c) (numL c) (numR c)) Q))
      ⊢ wp frame (wpE (defs₀ (F := F)) 𝒱₀ c none) Set.univ (segA k) Q := by
  iintro ⟨#HI, #HL, #HR, #Hbl, #Hbr, HO, HtL, HtR, HgL, HgR, Hcb, Hab, HX, Hrw, Hix, HW, Ht5, Ht11, Ht6, Ht12, Ht7, Ht13, Ht8, Ht14, Ht9, Ht15, Ht10, Ht16, Ht17, Ht21, Ht18, Ht22, Ht19, Ht23, ⟨Hc11, Ha11⟩, ⟨Hc12, Ha12⟩, ⟨Hc13, Ha13⟩, ⟨Hc14, Ha14⟩, ⟨Hc15, Ha15⟩, ⟨Hc16, Ha16⟩, Hk⟩
  ihave HW := (mAny_elim wsM (View.set_whole _) c) $$ HW
  icases HW with ⟨%f, HW⟩
  unfold segA
  rw [k0_part1_eq_skeleton]
  simp only [k0_part1_skel, atBufs, Prog.lift, Prog.bind_op, Prog.bind_ret, Prog.pure_eq_ret, semSignalWord, semWaitWord, wp_deviceId]
  ihave HgL := (Entails.of_eq (pay_barL I c)) $$ HgL
  ihave HgR := (Entails.of_eq (pay_barR I c)) $$ HgR
  iapply (sigD I K c _ (lf c) (dv1 c) barrier0 true 17 rfl) $$ [HO HtL HgL]
  · isplitr; · iapply (inv_bar I K (lf c)) $$ HI
    isplitl [HO]; · iexact HO
    isplitl [HtL]; · iexact HtL
    isplitl [HgL]; · iexact HgL
    iexact Hbl
  iintro HO
  iapply (sigD I K c _ (rt c) (dv2 c) barrier0 false 16 rfl) $$ [HO HtR HgR]
  · isplitr; · iapply (inv_bar I K (rt c)) $$ HI
    isplitl [HO]; · iexact HO
    isplitl [HtR]; · iexact HtR
    isplitl [HgR]; · iexact HgR
    iexact Hbr
  iintro HO
  iapply (wp_waits I K c (s := barrier0) 16 1 (by decide) (by decide)) $$ [Hcb HO Hab]
  · isplitr; · iapply (inv_bar I K c) $$ HI
    isplitr; · iexact HL
    isplitl [Hcb]; · iexact Hcb
    isplitl [HO]; · iexact HO
    iexact Hab
  iintro ⟨HO, Hsb, Hpay⟩
  ihave Hpay := (rest_bar I c) $$ Hpay
  unfold giveL giveR
  icases Hpay with ⟨⟨Gx0, Gx1, Gwl, Gxo0, Gw0, Ghl, Grl, #HRr⟩, ⟨Gy0, Gy1, Gwr, Gxo1, Gw1, Ghr, Grr, #HRl⟩⟩
  ihave #HC : ctx I K c $$ []
  · unfold ctx
    isplitr; · iexact HI
    isplitr; · iexact HL
    isplitr; · iexact HR
    isplitr; · iexact HRr
    iexact HRl
  sl_exec
  ihave HW := (Entails.of_eq (congrArg (wpt wsM c fullShare) (writesW I c f _ _ ?h0 ?h1))) $$ HW
  case h0 => rw [← gate_reads I c inb_S2048x512_S2048x512_0_0 inb_S512x32_S512x32_0_0 inb_S2048x2_S2048x1_0_0 inb_S2048x2_S2048x1_0_1]; rfl
  case h1 => rw [← gate_reads I c inb_S2048x512_S2048x512_0_0 inb_S512x32_S512x32_0_0 inb_S2048x2_S2048x1_0_0 inb_S2048x2_S2048x1_0_1]; rfl
  ihave HX := (Entails.of_eq (mpt_eq xM (View.set_whole _) c fullShare (I.x c)).symm) $$ HX
  ihave HX := (mpt_shares xM c fullShare (I.x c)).1 $$ HX
  icases HX with ⟨HXq, HXr⟩
  ihave HXq := (Entails.of_eq (mpt_eq xM (View.set_whole _) c qL (I.x c))) $$ HXq
  ihave HXr := (own_halves c qR (I.x c)).1 $$ HXr
  icases HXr with ⟨Hlo, Hhi⟩
  ihave Hlo := (mpt_shares xLo c qR (I.x c)).1 $$ Hlo
  icases Hlo with ⟨Hlo1, Hlo2⟩
  ihave Hhi := (mpt_shares xHi c qR (I.x c)).1 $$ Hhi
  icases Hhi with ⟨Hhi1, Hhi2⟩
  ihave HW := (Entails.of_eq (mpt_eq wsM (View.set_whole _) c fullShare (I.w c)).symm) $$ HW
  ihave HW := (mpt_shares wsM c fullShare (I.w c)).1 $$ HW
  icases HW with ⟨HWq, HWr⟩
  ihave HWq := (Entails.of_eq (mpt_eq wsM (View.set_whole _) c qL (I.w c))) $$ HWq
  ihave HWr := (mpt_shares wsM c qR (I.w c)).1 $$ HWr
  icases HWr with ⟨HW1, HW2⟩
  iapply (xferR I K c _ (dv3 c) (xLo) (x0 xlM) 5 11 qR.left (I.x c) (I.xb (lf (rt c))) 15 (by decide) (by decide) rfl rfl rfl rfl rfl
    (by rw [read_xLo, read_x0, lf_rt]; rfl)) $$ [Hlo1 Gx0 HO Ht5 Ht11]
  · isplitr; · iexact HC
    isplitl [Hlo1]; · iexact Hlo1
    isplitl [Gx0]; · iexact Gx0
    isplitl [HO]; · iexact HO
    isplitl [Ht5]; · iexact Ht5
    iexact Ht11
  iintro ⟨Hd5, HO⟩
  first | sl_exec | skip
  iapply (xferR I K c _ (dv4 c) (xHi) (x1 xlM) 6 12 qR.left (I.x c) (I.xb (lf (rt c))) 14 (by decide) (by decide) rfl rfl rfl rfl rfl
    (by rw [read_xHi, read_x1, lf_rt]; rfl)) $$ [Hhi1 Gx1 HO Ht6 Ht12]
  · isplitr; · iexact HC
    isplitl [Hhi1]; · iexact Hhi1
    isplitl [Gx1]; · iexact Gx1
    isplitl [HO]; · iexact HO
    isplitl [Ht6]; · iexact Ht6
    iexact Ht12
  iintro ⟨Hd6, HO⟩
  first | sl_exec | skip
  iapply (xferL I K c _ (dv5 c) (xLo) (x0 xrM) 7 13 qR.right (I.x c) (I.xb (rt (lf c))) 13 (by decide) (by decide) rfl rfl rfl rfl rfl
    (by rw [read_xLo, read_x0, rt_lf]; rfl)) $$ [Hlo2 Gy0 HO Ht7 Ht13]
  · isplitr; · iexact HC
    isplitl [Hlo2]; · iexact Hlo2
    isplitl [Gy0]; · iexact Gy0
    isplitl [HO]; · iexact HO
    isplitl [Ht7]; · iexact Ht7
    iexact Ht13
  iintro ⟨Hd7, HO⟩
  first | sl_exec | skip
  iapply (xferL I K c _ (dv6 c) (xHi) (x1 xrM) 8 14 qR.right (I.x c) (I.xb (rt (lf c))) 12 (by decide) (by decide) rfl rfl rfl rfl rfl
    (by rw [read_xHi, read_x1, rt_lf]; rfl)) $$ [Hhi2 Gy1 HO Ht8 Ht14]
  · isplitr; · iexact HC
    isplitl [Hhi2]; · iexact Hhi2
    isplitl [Gy1]; · iexact Gy1
    isplitl [HO]; · iexact HO
    isplitl [Ht8]; · iexact Ht8
    iexact Ht14
  iintro ⟨Hd8, HO⟩
  first | sl_exec | skip
  iapply (xferR I K c _ (dv7 c) (wsM) (wlM) 9 15 qR.left (I.w c) (I.w (lf (rt c))) 11 (by decide) (by decide) rfl rfl rfl rfl rfl
    (by rw [lf_rt]; rfl)) $$ [HW1 Gwl HO Ht9 Ht15]
  · isplitr; · iexact HC
    isplitl [HW1]; · iexact HW1
    isplitl [Gwl]; · iexact Gwl
    isplitl [HO]; · iexact HO
    isplitl [Ht9]; · iexact Ht9
    iexact Ht15
  iintro ⟨Hd9, HO⟩
  first | sl_exec | skip
  iapply (xferL I K c _ (dv8 c) (wsM) (wrM) 10 16 qR.right (I.w c) (I.w (rt (lf c))) 10 (by decide) (by decide) rfl rfl rfl rfl rfl
    (by rw [rt_lf]; rfl)) $$ [HW2 Gwr HO Ht10 Ht16]
  · isplitr; · iexact HC
    isplitl [HW2]; · iexact HW2
    isplitl [Gwr]; · iexact Gwr
    isplitl [HO]; · iexact HO
    isplitl [Ht10]; · iexact Ht10
    iexact Ht16
  iintro ⟨Hd10, HO⟩
  first | sl_exec | skip
  iapply (waitD I K c (xLo) (x0 xlM) 11 10 2 (mpt (x0 xlM) c fullShare (I.xb (lf c))) (by decide) rfl (by decide) (by decide) rfl) $$ [Hc11 HO Ha11]
  · isplitr; · iexact HC
    isplitl [Hc11]; · iexact Hc11
    isplitl [HO]; · iexact HO
    iexact Ha11
  iintro ⟨HO, Hs11, Hx0⟩
  first | sl_exec | skip
  iapply (waitD I K c (xHi) (x1 xlM) 12 10 2 (mpt (x1 xlM) c fullShare (I.xb (lf c))) (by decide) rfl (by decide) (by decide) rfl) $$ [Hc12 HO Ha12]
  · isplitr; · iexact HC
    isplitl [Hc12]; · iexact Hc12
    isplitl [HO]; · iexact HO
    iexact Ha12
  iintro ⟨HO, Hs12, Hx1⟩
  first | sl_exec | skip
  iapply (waitD I K c (xLo) (x0 xrM) 13 10 2 (mpt (x0 xrM) c fullShare (I.xb (rt c))) (by decide) rfl (by decide) (by decide) rfl) $$ [Hc13 HO Ha13]
  · isplitr; · iexact HC
    isplitl [Hc13]; · iexact Hc13
    isplitl [HO]; · iexact HO
    iexact Ha13
  iintro ⟨HO, Hs13, Hy0⟩
  first | sl_exec | skip
  iapply (waitD I K c (xHi) (x1 xrM) 14 10 2 (mpt (x1 xrM) c fullShare (I.xb (rt c))) (by decide) rfl (by decide) (by decide) rfl) $$ [Hc14 HO Ha14]
  · isplitr; · iexact HC
    isplitl [Hc14]; · iexact Hc14
    isplitl [HO]; · iexact HO
    iexact Ha14
  iintro ⟨HO, Hs14, Hy1⟩
  first | sl_exec | skip
  iapply (waitD I K c (wsM) (wlM) 15 10 2 (mpt (wlM) c fullShare (I.w (lf c))) (by decide) rfl (by decide) (by decide) rfl) $$ [Hc15 HO Ha15]
  · isplitr; · iexact HC
    isplitl [Hc15]; · iexact Hc15
    isplitl [HO]; · iexact HO
    iexact Ha15
  iintro ⟨HO, Hs15, Hwl⟩
  first | sl_exec | skip
  iapply (waitD I K c (wsM) (wrM) 16 10 2 (mpt (wrM) c fullShare (I.w (rt c))) (by decide) rfl (by decide) (by decide) rfl) $$ [Hc16 HO Ha16]
  · isplitr; · iexact HC
    isplitl [Hc16]; · iexact Hc16
    isplitl [HO]; · iexact HO
    iexact Ha16
  iintro ⟨HO, Hs16, Hwr⟩
  first | sl_exec | skip
  ihave Hxl := (x_halves c fullShare xlM (I.xb (lf c))).2 $$ [Hx0 Hx1]
  · isplitl [Hx0]; · iexact Hx0
    iexact Hx1
  ihave Hxl := (mpt_shares xlM c fullShare (I.xb (lf c))).1 $$ Hxl
  icases Hxl with ⟨Hxlq, Hxlr⟩
  ihave Hxlq := (Entails.of_eq (mpt_eq xlM (View.set_whole _) c qL (I.xb (lf c)))) $$ Hxlq
  ihave Hxlr := (x_halves c qR xlM (I.xb (lf c))).1 $$ Hxlr
  icases Hxlr with ⟨Hxl0, Hxl1⟩
  ihave Hxr := (x_halves c fullShare xrM (I.xb (rt c))).2 $$ [Hy0 Hy1]
  · isplitl [Hy0]; · iexact Hy0
    iexact Hy1
  ihave Hxr := (mpt_shares xrM c fullShare (I.xb (rt c))).1 $$ Hxr
  icases Hxr with ⟨Hxrq, Hxrr⟩
  ihave Hxrq := (Entails.of_eq (mpt_eq xrM (View.set_whole _) c qL (I.xb (rt c)))) $$ Hxrq
  ihave Hxrr := (x_halves c qR xrM (I.xb (rt c))).1 $$ Hxrr
  icases Hxrr with ⟨Hxr0, Hxr1⟩
  ihave Hwl := (mpt_shares wlM c fullShare (I.w (lf c))).1 $$ Hwl
  icases Hwl with ⟨Hwlq, Hwlr⟩
  ihave Hwlq := (Entails.of_eq (mpt_eq wlM (View.set_whole _) c qL (I.w (lf c)))) $$ Hwlq
  ihave Hwlr := (w_halves c qR wlM (I.w (lf c))).1 $$ Hwlr
  icases Hwlr with ⟨Hwl0, Hwl1⟩
  ihave Hwr := (Entails.of_eq (mpt_eq wrM (View.set_whole _) c fullShare (I.w (rt c)))) $$ Hwr
  iapply (xferR I K c _ (dv9 c) (x0 xlM) (x0 xoM) 17 21 qR (I.xb (lf c)) (I.xb (opp (rt c))) 9 (by decide) (by decide) rfl rfl rfl rfl rfl
    (by rw [read_x0, read_x0, opp_rt]; rfl)) $$ [Hxl0 Gxo0 HO Ht17 Ht21]
  · isplitr; · iexact HC
    isplitl [Hxl0]; · iexact Hxl0
    isplitl [Gxo0]; · iexact Gxo0
    isplitl [HO]; · iexact HO
    isplitl [Ht17]; · iexact Ht17
    iexact Ht21
  iintro ⟨Hd17, HO⟩
  first | sl_exec | skip
  iapply (xferL I K c _ (dv10 c) (x1 xrM) (x1 xoM) 18 22 qR (I.xb (rt c)) (I.xb (opp (lf c))) 8 (by decide) (by decide) rfl rfl rfl rfl rfl
    (by rw [read_x1, read_x1, opp_lf]; rfl)) $$ [Hxr1 Gxo1 HO Ht18 Ht22]
  · isplitr; · iexact HC
    isplitl [Hxr1]; · iexact Hxr1
    isplitl [Gxo1]; · iexact Gxo1
    isplitl [HO]; · iexact HO
    isplitl [Ht18]; · iexact Ht18
    iexact Ht22
  iintro ⟨Hd18, HO⟩
  first | sl_exec | skip
  iapply (xferR I K c _ (dv11 c) (w0 wlM) (w0 woM) 19 23 qR (I.w (lf c)) (I.w (opp (rt c))) 7 (by decide) (by decide) rfl rfl rfl rfl rfl
    (by rw [read_w0, read_w0, opp_rt]; rfl)) $$ [Hwl0 Gw0 HO Ht19 Ht23]
  · isplitr; · iexact HC
    isplitl [Hwl0]; · iexact Hwl0
    isplitl [Gw0]; · iexact Gw0
    isplitl [HO]; · iexact HO
    isplitl [Ht19]; · iexact Ht19
    iexact Ht23
  iintro ⟨Hd19, HO⟩
  first | sl_exec | skip
  iapply Hk
  isplitr; · iexact HC
  isplitl [HO]; · iexact HO
  isplitl [HXq]; · iexact HXq
  isplitl [Hrw]; · iexact Hrw
  isplitl [Hix]; · iexact Hix
  isplitl [HWq]; · iexact HWq
  isplitl [Hxlq]; · iexact Hxlq
  isplitl [Hxl1]; · iexact Hxl1
  isplitl [Hxrq]; · iexact Hxrq
  isplitl [Hxr0]; · iexact Hxr0
  isplitl [Hwlq]; · iexact Hwlq
  isplitl [Hwl1]; · iexact Hwl1
  isplitl [Hwr]; · iexact Hwr
  isplitl [Gw1]; · iexact Gw1
  isplitl [Ghl]; · iexact Ghl
  isplitl [Grl]; · iexact Grl
  isplitl [Ghr]; · iexact Ghr
  isplitl [Grr]; · iexact Grr
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd17]; · iexact Hd17
  isplitl [Hd18]; · iexact Hd18
  isplitl [Hd19]; · iexact Hd19
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  iexact Hsb

end Cert.KernelIdeal.Moe
-- ==== Proof.KI.PhaseB.lean ====
/-
The contribution to the right neighbour's tokens, while the opposite device's tokens and gates arrive.
-/
module

public import proofs.«01_k».proof.Proof.KI.Ctx

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

set_option maxHeartbeats 400000 in
/-- The second stretch of the body: the right neighbour's block is multiplied, and the second gather's blocks have arrived. -/
theorem phaseB (K : GSem nD τ sig → ℕ) (c : Dev nD) (v5 v7 : BitVec 32) (Q : PUnit → sProp 𝕄) (k : FVec F S32x8 .bf16 → P F PUnit) :
    iprop(ctx I K c ∗ owesE c 7 ∗ wpt ewM c fullShare (I.ew c) ∗ wpt xrM c qL (I.xb (rt c)) ∗ wpt wrM c fullShare (I.w (rt c)) ∗ mAny crM c
        ∗ mAny (w1 woM) (lf c) ∗ tk c 20 ∗ tk (lf c) 24
        ∗ (cd c 21 ∗ ap c 21) ∗ (cd c 22 ∗ ap c 22) ∗ (cd c 23 ∗ ap c 23) ∗ (cd c 24 ∗ ap c 24)
        ∗ ((owesE c 6 ∗ wpt ewM c fullShare (I.ew c) ∗ wpt xrM c qL (I.xb (rt c)) ∗ wpt wrM c qL (I.w (rt c)) ∗ mpt (w0 wrM) c qR (I.w (rt c))
            ∗ wpt crM c fullShare (I.cr c) ∗ cd c 20 ∗ wpt xoM c fullShare (I.xb (opp c)) ∗ wpt woM c fullShare (I.w (opp c))
            ∗ sv c 21 ∗ sv c 22 ∗ sv c 23 ∗ sv c 24)
          -∗ wp frame (wpE (defs₀ (F := F)) 𝒱₀ c none) Set.univ (k (Inp.sel c)) Q))
      ⊢ wp frame (wpE (defs₀ (F := F)) 𝒱₀ c none) Set.univ (segB c (Scalar.remsi (Scalar.divsi (Dev.word c) 1#32) 4#32) v5 v7 k) Q := by
  iintro ⟨#HC, HO, HE, HX, HW, Hcr, Hwo, Ht1, Ht2, ⟨Hc21, Ha21⟩, ⟨Hc22, Ha22⟩, ⟨Hc23, Ha23⟩, ⟨Hc24, Ha24⟩, Hk⟩
  ihave Hcr := (mAny_elim crM (View.set_whole _) c) $$ Hcr
  icases Hcr with ⟨%f, Hcr⟩
  ihave HW := (Entails.of_eq (mpt_eq wrM (View.set_whole _) c fullShare (I.w (rt c))).symm) $$ HW
  ihave HW := (mpt_shares wrM c fullShare (I.w (rt c))).1 $$ HW
  icases HW with ⟨HW, HWr⟩
  ihave HWr := (w_halves c qR wrM (I.w (rt c))).1 $$ HWr
  icases HWr with ⟨HWr0, HWr1⟩
  unfold segB
  rw [k0_part7_eq_skeleton]
  simp only [k0_part7_skel, atBufs, Prog.lift, Prog.bind_op, Prog.bind_ret, Prog.pure_eq_ret]
  ihave HWq := (Entails.of_eq (mpt_eq wrM (View.set_whole _) c qL (I.w (rt c)))) $$ HW
  iapply (xferL I K c _ (dv12 c) (w1 wrM) (w1 woM) 20 24 qR (I.w (rt c)) (I.w (opp (lf c))) 6 (by decide) (by decide) rfl rfl rfl rfl rfl
    (by rw [read_w1, read_w1, opp_lf]; rfl)) $$ [HWr1 HO Hwo Ht1 Ht2]
  · isplitr; · iexact HC
    isplitl [HWr1]; · iexact HWr1
    isplitl [Hwo]; · iexact Hwo
    isplitl [HO]; · iexact HO
    isplitl [Ht1]; · iexact Ht1
    iexact Ht2
  iintro ⟨Hc20, HO⟩
  sl_exec
  ihave Hcr := (Entails.of_eq (congrArg (wpt crM c fullShare) (writes4 crM.view (View.set_whole _) f (I.cr c) (Inp.sel c) (I.ew c) (I.xb (rt c)) (I.w (rt c)) rfl
    _ _ _ _ ?h00 ?h01 ?h10 ?h11))) $$ Hcr
  case h00 => exact (contrib_r (Inp.sel c) (I.ew c) (I.xb (rt c)) (I.w (rt c)) 0 0).symm
  case h01 => exact (contrib_r (Inp.sel c) (I.ew c) (I.xb (rt c)) (I.w (rt c)) 0 1).symm
  case h10 => exact (contrib_r (Inp.sel c) (I.ew c) (I.xb (rt c)) (I.w (rt c)) 1 0).symm
  case h11 => exact (contrib_r (Inp.sel c) (I.ew c) (I.xb (rt c)) (I.w (rt c)) 1 1).symm
  iapply (waitD I K c (x0 xlM) (x0 xoM) 21 6 3 (mpt (x0 xoM) c fullShare (I.xb (opp c))) (by decide) rfl (by decide) (by decide) rfl) $$ [Hc21 HO Ha21]
  · isplitr; · iexact HC
    isplitl [Hc21]; · iexact Hc21
    isplitl [HO]; · iexact HO
    iexact Ha21
  iintro ⟨HO, Hs21, Hxo0⟩
  sl_exec
  iapply (waitD I K c (x1 xrM) (x1 xoM) 22 6 3 (mpt (x1 xoM) c fullShare (I.xb (opp c))) (by decide) rfl (by decide) (by decide) rfl) $$ [Hc22 HO Ha22]
  · isplitr; · iexact HC
    isplitl [Hc22]; · iexact Hc22
    isplitl [HO]; · iexact HO
    iexact Ha22
  iintro ⟨HO, Hs22, Hxo1⟩
  sl_exec
  iapply (waitD I K c (w0 wlM) (w0 woM) 23 6 3 (mpt (w0 woM) c fullShare (I.w (opp c))) (by decide) rfl (by decide) (by decide) rfl) $$ [Hc23 HO Ha23]
  · isplitr; · iexact HC
    isplitl [Hc23]; · iexact Hc23
    isplitl [HO]; · iexact HO
    iexact Ha23
  iintro ⟨HO, Hs23, Hwo0⟩
  sl_exec
  iapply (waitD I K c (w1 wrM) (w1 woM) 24 6 3 (mpt (w1 woM) c fullShare (I.w (opp c))) (by decide) rfl (by decide) (by decide) rfl) $$ [Hc24 HO Ha24]
  · isplitr; · iexact HC
    isplitl [Hc24]; · iexact Hc24
    isplitl [HO]; · iexact HO
    iexact Ha24
  iintro ⟨HO, Hs24, Hwo1⟩
  sl_exec
  ihave Hxo := (x_halves c fullShare xoM (I.xb (opp c))).2 $$ [Hxo0 Hxo1]
  · isplitl [Hxo0]; · iexact Hxo0
    iexact Hxo1
  ihave Hxo := (Entails.of_eq (mpt_eq xoM (View.set_whole _) c fullShare (I.xb (opp c)))) $$ Hxo
  ihave Hwo := (w_halves c fullShare woM (I.w (opp c))).2 $$ [Hwo0 Hwo1]
  · isplitl [Hwo0]; · iexact Hwo0
    iexact Hwo1
  ihave Hwo := (Entails.of_eq (mpt_eq woM (View.set_whole _) c fullShare (I.w (opp c)))) $$ Hwo
  iapply Hk
  isplitl [HO]; · iexact HO
  isplitl [HE]; · iexact HE
  isplitl [HX]; · iexact HX
  isplitl [HWq]; · iexact HWq
  isplitl [HWr0]; · iexact HWr0
  isplitl [Hcr]; · iexact Hcr
  isplitl [Hc20]; · iexact Hc20
  isplitl [Hxo]; · iexact Hxo
  isplitl [Hwo]; · iexact Hwo
  isplitl [Hs21]; · iexact Hs21
  isplitl [Hs22]; · iexact Hs22
  isplitl [Hs23]; · iexact Hs23
  iexact Hs24

end Cert.KernelIdeal.Moe
-- ==== Proof.KI.PhaseC.lean ====
/-
The contribution to the opposite device's tokens, sent half to each neighbour to be passed on.
-/
module

public import proofs.«01_k».proof.Proof.KI.Ctx

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- What is read of the left neighbour's tokens and gates for the first tile of the next phase. -/
abbrev firstX (c : Dev nD) : FVec F S512x512 .bf16 :=
  k0_pay57 (View.readAt (Elt F) xlM.view (Rect.unit (s := S2x1024x512) ![0, 0, 0] S1x512x512.size inb_S2x1024x512_S1x512x512_0_0_0).toLoadRect (I.xb (lf c)))
abbrev firstW (c : Dev nD) : FVec F S512x32 .bf16 :=
  k0_pay58 (View.readAt (Elt F) wlM.view (Rect.unit (s := S2x1024x32) ![0, 0, 0] S1x512x32.size inb_S2x1024x32_S1x512x32_0_0_0).toLoadRect (I.w (lf c)))

set_option maxHeartbeats 400000 in
/-- The phase that adds up for the opposite device, from the first tile to the two copies that send the result. -/
theorem phaseC (K : GSem nD τ sig → ℕ) (c : Dev nD) (v5 v7 : BitVec 32) (Q : PUnit → sProp 𝕄) (k : FVec F S512x512 .bf16 → FVec F S512x32 .bf16 → FVec F S512x8 .f32 → P F PUnit) :
    iprop(ctx I K c ∗ owesE c 6 ∗ wpt ewM c fullShare (I.ew c) ∗ wpt xoM c fullShare (I.xb (opp c)) ∗ wpt woM c fullShare (I.w (opp c)) ∗ mAny coM c
        ∗ wpt xlM c qL (I.xb (lf c)) ∗ wpt wlM c qL (I.w (lf c)) ∗ mAny hlM (rt c) ∗ mAny hrM (lf c) ∗ tk c 25 ∗ tk (rt c) 27 ∗ tk c 26 ∗ tk (lf c) 28
        ∗ ((owesE c 4 ∗ wpt ewM c fullShare (I.ew c) ∗ wpt xoM c fullShare (I.xb (opp c)) ∗ wpt woM c fullShare (I.w (opp c)) ∗ wpt xlM c qL (I.xb (lf c))
        ∗ wpt wlM c qL (I.w (lf c)) ∗ cd c 25 ∗ cd c 26)
          -∗ wp frame (wpE (defs₀ (F := F)) 𝒱₀ c none) Set.univ (k (firstX I c) (firstW I c) (constant S512x8 .f32 0x00000000#32)) Q))
      ⊢ wp frame (wpE (defs₀ (F := F)) 𝒱₀ c none) Set.univ (segC c v5 v7 (Inp.sel c) k) Q := by
  iintro ⟨#HC, HO, HE, HXo, HWo, Hco, HXl, HWl, Hhl, Hhr, Ht25, Ht27, Ht26, Ht28, Hk⟩
  ihave Hco := (mAny_elim coM (View.set_whole _) c) $$ Hco
  icases Hco with ⟨%f, Hco⟩
  unfold segC
  rw [k0_part16_eq_skeleton]
  simp only [k0_part16_skel, atBufs, Prog.lift, Prog.bind_op, Prog.bind_ret, Prog.pure_eq_ret]
  sl_exec
  ihave Hco := (Entails.of_eq (congrArg (wpt coM c fullShare) (writes4 coM.view (View.set_whole _) f (I.co c) (Inp.sel c) (I.ew c) (I.xb (opp c)) (I.w (opp c)) rfl
    _ _ _ _ ?h00 ?h01 ?h10 ?h11))) $$ Hco
  case h00 => exact (contrib_o (Inp.sel c) (I.ew c) (I.xb (opp c)) (I.w (opp c)) 0 0).symm
  case h01 => exact (contrib_o (Inp.sel c) (I.ew c) (I.xb (opp c)) (I.w (opp c)) 0 1).symm
  case h10 => exact (contrib_o (Inp.sel c) (I.ew c) (I.xb (opp c)) (I.w (opp c)) 1 0).symm
  case h11 => exact (contrib_o (Inp.sel c) (I.ew c) (I.xb (opp c)) (I.w (opp c)) 1 1).symm
  ihave Hco := (Entails.of_eq (mpt_eq coM (View.set_whole _) c fullShare (I.co c)).symm) $$ Hco
  ihave Hco := (c_halves c fullShare coM (I.co c)).1 $$ Hco
  icases Hco with ⟨Hco0, Hco1⟩
  iapply (xferR I K c _ (dv13 c) (c0 coM) (hlM) 25 27 fullShare (I.co c) (I.hl (rt c)) 5 (by decide) (by decide) rfl rfl rfl rfl rfl
    (by rw [read_c0]; unfold Inp.hl; rw [lf_rt]; rfl)) $$ [Hco0 Hhl HO Ht25 Ht27]
  · isplitr; · iexact HC
    isplitl [Hco0]; · iexact Hco0
    isplitl [Hhl]; · iexact Hhl
    isplitl [HO]; · iexact HO
    isplitl [Ht25]; · iexact Ht25
    iexact Ht27
  iintro ⟨Hc25, HO⟩
  sl_exec
  iapply (xferL I K c _ (dv14 c) (c1 coM) (hrM) 26 28 fullShare (I.co c) (I.hr (lf c)) 4 (by decide) (by decide) rfl rfl rfl rfl rfl
    (by rw [read_c1]; unfold Inp.hr; rw [rt_lf]; rfl)) $$ [Hco1 Hhr HO Ht26 Ht28]
  · isplitr; · iexact HC
    isplitl [Hco1]; · iexact Hco1
    isplitl [Hhr]; · iexact Hhr
    isplitl [HO]; · iexact HO
    isplitl [Ht26]; · iexact Ht26
    iexact Ht28
  iintro ⟨Hc26, HO⟩
  sl_exec
  iapply Hk
  isplitl [HO]; · iexact HO
  isplitl [HE]; · iexact HE
  isplitl [HXo]; · iexact HXo
  isplitl [HWo]; · iexact HWo
  isplitl [HXl]; · iexact HXl
  isplitl [HWl]; · iexact HWl
  isplitl [Hc25]; · iexact Hc25
  iexact Hc26

end Cert.KernelIdeal.Moe
-- ==== Proof.KI.PhaseD.lean ====
/-
The contribution to the left neighbour's tokens, and the sum passed on to the right.
-/
module

public import proofs.«01_k».proof.Proof.KI.PhaseC

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- The upper half of the contribution to the left neighbour, read back before what arrived is added. -/
abbrev upper (c : Dev nD) : FVec F S1024x1024 .bf16 :=
  k0_pay84 (View.readAt (Elt F) clM.view (Rect.unit (s := S2x1024x1024) ![1, 0, 0] S1x1024x1024.size inb_S2x1024x1024_S1x1024x1024_1_0_0).toLoadRect (I.cl c))

set_option maxHeartbeats 400000 in
/-- The phase that adds up for the left neighbour, and adds what arrived from the left to the sum for the right. -/
theorem phaseD (K : GSem nD τ sig → ℕ) (c : Dev nD) (v5 v7 : BitVec 32) (Q : PUnit → sProp 𝕄) (k : FVec F S1024x1024 .bf16 → P F PUnit) :
    iprop(ctx I K c ∗ owesE c 4 ∗ wpt ewM c fullShare (I.ew c) ∗ wpt xlM c qL (I.xb (lf c)) ∗ wpt wlM c qL (I.w (lf c)) ∗ mAny clM c ∗ wpt crM c fullShare (I.cr c) ∗ cd c 27
        ∗ ap c 27 ∗ cd c 28 ∗ ap c 28
        ∗ ((owesE c 4 ∗ wpt ewM c fullShare (I.ew c) ∗ wpt xlM c qL (I.xb (lf c)) ∗ wpt wlM c qL (I.w (lf c)) ∗ wpt clM c fullShare (I.cl c) ∗ wpt crM c fullShare (I.crF c)
        ∗ wpt hlM c fullShare (I.hl c) ∗ wpt hrM c fullShare (I.hr c) ∗ sv c 27 ∗ sv c 28)
          -∗ wp frame (wpE (defs₀ (F := F)) 𝒱₀ c none) Set.univ (k (upper I c)) Q))
      ⊢ wp frame (wpE (defs₀ (F := F)) 𝒱₀ c none) Set.univ (segD v5 v7 (Inp.sel c) (firstX I c) (firstW I c) (constant S512x8 .f32 0x00000000#32) k) Q := by
  iintro ⟨#HC, HO, HE, HXl, HWl, Hcl, Hcr, Hc27, Ha27, Hc28, Ha28, Hk⟩
  ihave Hcl := (mAny_elim clM (View.set_whole _) c) $$ Hcl
  icases Hcl with ⟨%f, Hcl⟩
  unfold segD
  rw [k0_part24_eq_skeleton]
  simp only [k0_part24_skel, atBufs, Prog.lift, Prog.bind_op, Prog.bind_ret, Prog.pure_eq_ret]
  sl_exec
  ihave Hcl := (Entails.of_eq (congrArg (wpt clM c fullShare) (writes4 clM.view (View.set_whole _) f (I.cl c) (Inp.sel c) (I.ew c) (I.xb (lf c)) (I.w (lf c)) rfl
    _ _ _ _ ?h00 ?h01 ?h10 ?h11))) $$ Hcl
  case h00 => exact (contrib_l (Inp.sel c) (I.ew c) (I.xb (lf c)) (I.w (lf c)) 0 0).symm
  case h01 => exact (contrib_l (Inp.sel c) (I.ew c) (I.xb (lf c)) (I.w (lf c)) 0 1).symm
  case h10 => exact (contrib_l (Inp.sel c) (I.ew c) (I.xb (lf c)) (I.w (lf c)) 1 0).symm
  case h11 => exact (contrib_l (Inp.sel c) (I.ew c) (I.xb (lf c)) (I.w (lf c)) 1 1).symm
  iapply (waitD I K c (c0 coM) (hlM) 27 4 4 (mpt hlM c fullShare (I.hl c)) (by decide) rfl (by decide) (by decide) rfl) $$ [Hc27 HO Ha27]
  · isplitr; · iexact HC
    isplitl [Hc27]; · iexact Hc27
    isplitl [HO]; · iexact HO
    iexact Ha27
  iintro ⟨HO, Hs27, Hhl⟩
  sl_exec
  iapply (waitD I K c (c1 coM) (hrM) 28 4 4 (mpt hrM c fullShare (I.hr c)) (by decide) rfl (by decide) (by decide) rfl) $$ [Hc28 HO Ha28]
  · isplitr; · iexact HC
    isplitl [Hc28]; · iexact Hc28
    isplitl [HO]; · iexact HO
    iexact Ha28
  iintro ⟨HO, Hs28, Hhr⟩
  ihave Hhl := (Entails.of_eq (mpt_eq hlM (View.set_whole _) c fullShare (I.hl c))) $$ Hhl
  sl_exec
  ihave Hcr := (Entails.of_eq (congrArg (wpt crM c fullShare) (writes_crF I c _ _ ?hp))) $$ Hcr
  case hp => rfl
  ihave Hhr := (Entails.of_eq (mpt_eq hrM (View.set_whole _) c fullShare (I.hr c))) $$ Hhr
  iapply Hk
  isplitl [HO]; · iexact HO
  isplitl [HE]; · iexact HE
  isplitl [HXl]; · iexact HXl
  isplitl [HWl]; · iexact HWl
  isplitl [Hcl]; · iexact Hcl
  isplitl [Hcr]; · iexact Hcr
  isplitl [Hhl]; · iexact Hhl
  isplitl [Hhr]; · iexact Hhr
  isplitl [Hs27]; · iexact Hs27
  iexact Hs28

end Cert.KernelIdeal.Moe
-- ==== Proof.KI.PhaseE.lean ====
/-
The sums sent on to both neighbours, the device's own contribution, and the arrival of the neighbours' sums.
-/
module

public import proofs.«01_k».proof.Proof.KI.PhaseD

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- The first rows of the own contribution with the left neighbour's sum added. -/
abbrev firstOut (c : Dev nD) : FVec F S512x1024 .f32 :=
  k0_pay111 (View.readAt (Elt F) outM.view (Rect.unit (s := S2048x1024) ![0, 0] S512x1024.size inb_S2048x1024_S512x1024_0_0).toLoadRect (I.own c))
    (View.readAt (Elt F) rlM.view (Rect.unit (s := S2x1024x1024) ![0, 0, 0] S1x512x1024.size inb_S2x1024x1024_S1x512x1024_0_0_0).toLoadRect (I.crF (lf c)))

set_option maxHeartbeats 400000 in
/-- The phase that sends both sums on, adds up for the device's own tokens, and waits for the neighbours' sums. -/
theorem phaseE (K : GSem nD τ sig → ℕ) (c : Dev nD) (v5 v7 : BitVec 32) (Q : PUnit → sProp 𝕄) (k : FVec F S512x1024 .f32 → P F PUnit) :
    iprop(ctx I K c ∗ owesE c 4 ∗ wpt ewM c fullShare (I.ew c) ∗ wpt xM c qL (I.x c) ∗ wpt wsM c qL (I.w c) ∗ wpt clM c fullShare (I.cl c) ∗ wpt crM c fullShare (I.crF c)
        ∗ wpt hrM c fullShare (I.hr c) ∗ mAny outM c ∗ mAny rlM (rt c) ∗ mAny rrM (lf c) ∗ tk c 29 ∗ tk (rt c) 31 ∗ tk c 30 ∗ tk (lf c) 32 ∗ cd c 31 ∗ ap c 31 ∗ cd c 32 ∗ ap c 32
        ∗ ((owesE c 2 ∗ wpt ewM c fullShare (I.ew c) ∗ wpt xM c qL (I.x c) ∗ wpt wsM c qL (I.w c) ∗ wpt hrM c fullShare (I.hr c) ∗ wpt outM c fullShare (I.own c)
        ∗ wpt rlM c fullShare (I.crF (lf c)) ∗ wpt rrM c fullShare (I.clF (rt c)) ∗ cd c 29 ∗ cd c 30 ∗ sv c 31 ∗ sv c 32)
          -∗ wp frame (wpE (defs₀ (F := F)) 𝒱₀ c none) Set.univ (k (firstOut I c)) Q))
      ⊢ wp frame (wpE (defs₀ (F := F)) 𝒱₀ c none) Set.univ (segE c v5 v7 (Inp.sel c) (upper I c) k) Q := by
  iintro ⟨#HC, HO, HE, HX, HW, Hcl, Hcr, Hhr, Hout, Hrl, Hrr, Ht29, Ht31, Ht30, Ht32, Hc31, Ha31, Hc32, Ha32, Hk⟩
  ihave Hout := (mAny_elim outM (View.set_whole _) c) $$ Hout
  icases Hout with ⟨%f, Hout⟩
  unfold segE
  rw [k0_part32_eq_skeleton]
  simp only [k0_part32_skel, atBufs, Prog.lift, Prog.bind_op, Prog.bind_ret, Prog.pure_eq_ret]
  sl_exec
  ihave Hcl := (Entails.of_eq (congrArg (wpt clM c fullShare) (writes_clF I c _ _ ?hp))) $$ Hcl
  case hp => rfl
  ihave Hcr := (Entails.of_eq (mpt_eq crM (View.set_whole _) c fullShare (I.crF c)).symm) $$ Hcr
  ihave Hcl := (Entails.of_eq (mpt_eq clM (View.set_whole _) c fullShare (I.clF c)).symm) $$ Hcl
  iapply (xferR I K c _ (dv15 c) (crM) (rlM) 29 31 fullShare (I.crF c) (I.crF (lf (rt c))) 3 (by decide) (by decide) rfl rfl rfl rfl rfl
    (by rw [lf_rt]; rfl)) $$ [Hcr Hrl HO Ht29 Ht31]
  · isplitr; · iexact HC
    isplitl [Hcr]; · iexact Hcr
    isplitl [Hrl]; · iexact Hrl
    isplitl [HO]; · iexact HO
    isplitl [Ht29]; · iexact Ht29
    iexact Ht31
  iintro ⟨Hc29, HO⟩
  iapply (xferL I K c _ (dv16 c) (clM) (rrM) 30 32 fullShare (I.clF c) (I.clF (rt (lf c))) 2 (by decide) (by decide) rfl rfl rfl rfl rfl
    (by rw [rt_lf]; rfl)) $$ [Hcl Hrr HO Ht30 Ht32]
  · isplitr; · iexact HC
    isplitl [Hcl]; · iexact Hcl
    isplitl [Hrr]; · iexact Hrr
    isplitl [HO]; · iexact HO
    isplitl [Ht30]; · iexact Ht30
    iexact Ht32
  iintro ⟨Hc30, HO⟩
  sl_exec
  ihave Hout := (Entails.of_eq (congrArg (wpt outM c fullShare) (writesOut f (I.own c) _ _ _ _ ?h0 ?h1 ?h2 ?h3))) $$ Hout
  case h0 => exact fun x => (congrFun (self_reads (Inp.sel c) (I.ew c) (I.w c) 0 0 (I.x c)).symm x).trans (self_emb (Inp.sel c) (I.ew c) (I.x c) (I.w c) 0 0 0 rfl _ x)
  case h1 => exact fun x => (congrFun (self_reads (Inp.sel c) (I.ew c) (I.w c) 0 1 (I.x c)).symm x).trans (self_emb (Inp.sel c) (I.ew c) (I.x c) (I.w c) 0 1 512 rfl _ x)
  case h2 => exact fun x => (congrFun (self_reads (Inp.sel c) (I.ew c) (I.w c) 1 0 (I.x c)).symm x).trans (self_emb (Inp.sel c) (I.ew c) (I.x c) (I.w c) 1 0 1024 rfl _ x)
  case h3 => exact fun x => (congrFun (self_reads (Inp.sel c) (I.ew c) (I.w c) 1 1 (I.x c)).symm x).trans (self_emb (Inp.sel c) (I.ew c) (I.x c) (I.w c) 1 1 1536 rfl _ x)
  iapply (waitD I K c (crM) (rlM) 31 2 5 (mpt rlM c fullShare (I.crF (lf c))) (by decide) rfl (by decide) (by decide) rfl) $$ [Hc31 HO Ha31]
  · isplitr; · iexact HC
    isplitl [Hc31]; · iexact Hc31
    isplitl [HO]; · iexact HO
    iexact Ha31
  iintro ⟨HO, Hs31, Hrl⟩
  sl_exec
  iapply (waitD I K c (clM) (rrM) 32 2 5 (mpt rrM c fullShare (I.clF (rt c))) (by decide) rfl (by decide) (by decide) rfl) $$ [Hc32 HO Ha32]
  · isplitr; · iexact HC
    isplitl [Hc32]; · iexact Hc32
    isplitl [HO]; · iexact HO
    iexact Ha32
  iintro ⟨HO, Hs32, Hrr⟩
  ihave Hrl := (Entails.of_eq (mpt_eq rlM (View.set_whole _) c fullShare (I.crF (lf c)))) $$ Hrl
  sl_exec
  ihave Hrr := (Entails.of_eq (mpt_eq rrM (View.set_whole _) c fullShare (I.clF (rt c)))) $$ Hrr
  iapply Hk
  isplitl [HO]; · iexact HO
  isplitl [HE]; · iexact HE
  isplitl [HX]; · iexact HX
  isplitl [HW]; · iexact HW
  isplitl [Hhr]; · iexact Hhr
  isplitl [Hout]; · iexact Hout
  isplitl [Hrl]; · iexact Hrl
  isplitl [Hrr]; · iexact Hrr
  isplitl [Hc29]; · iexact Hc29
  isplitl [Hc30]; · iexact Hc30
  isplitl [Hs31]; · iexact Hs31
  iexact Hs32

end Cert.KernelIdeal.Moe
-- ==== Proof.KI.PhaseF.lean ====
/-
The neighbours' sums added to the own contribution, the waits for everything sent, and the closing signals.
-/
module

public import proofs.«01_k».proof.Proof.KI.PhaseE

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- A source handed back, with its semaphore at zero. -/
def back (c : Dev nD) (n : DmaSem sig) : sProp 𝕄 := iprop(sv c n ∗ dmaPay I c n.val)

set_option maxHeartbeats 400000 in
/-- The phase that finishes the result and takes back everything that was sent. -/
theorem phaseF (K : GSem nD τ sig → ℕ) (c : Dev nD) (Q : PUnit → sProp 𝕄) :
    iprop(ctx I K c ∗ owesE c 2 ∗ wpt outM c fullShare (I.own c) ∗ wpt rlM c fullShare (I.crF (lf c)) ∗ wpt rrM c fullShare (I.clF (rt c)) ∗ (cd c 5 ∗ ap c 5) ∗ (cd c 6
        ∗ ap c 6) ∗ (cd c 7 ∗ ap c 7) ∗ (cd c 8 ∗ ap c 8) ∗ (cd c 9 ∗ ap c 9) ∗ (cd c 10 ∗ ap c 10) ∗ (cd c 17 ∗ ap c 17) ∗ (cd c 18 ∗ ap c 18) ∗ (cd c 19 ∗ ap c 19)
        ∗ (cd c 20 ∗ ap c 20) ∗ (cd c 25 ∗ ap c 25) ∗ (cd c 26 ∗ ap c 26) ∗ (cd c 29 ∗ ap c 29) ∗ (cd c 30 ∗ ap c 30) ∗ dutyTok ER (endCell (lf c)) 0 true
        ∗ dutyTok ER (endCell (rt c)) 0 false
        ∗ ((owesE c 0 ∗ wpt outM c fullShare (I.out c) ∗ wpt rlM c fullShare (I.crF (lf c)) ∗ wpt rrM c fullShare (I.clF (rt c)) ∗ back I c 5 ∗ back I c 6 ∗ back I c 7
        ∗ back I c 8 ∗ back I c 9 ∗ back I c 10 ∗ back I c 17 ∗ back I c 18 ∗ back I c 19 ∗ back I c 20 ∗ back I c 25 ∗ back I c 26 ∗ back I c 29 ∗ back I c 30)
          -∗ Q ⟨⟩))
      ⊢ wp frame (wpE (defs₀ (F := F)) 𝒱₀ c none) Set.univ (segF c (firstOut I c)) Q := by
  iintro ⟨#HC, HO, Hout, Hrl, Hrr, ⟨Hc5, Ha5⟩, ⟨Hc6, Ha6⟩, ⟨Hc7, Ha7⟩, ⟨Hc8, Ha8⟩, ⟨Hc9, Ha9⟩, ⟨Hc10, Ha10⟩, ⟨Hc17, Ha17⟩, ⟨Hc18, Ha18⟩, ⟨Hc19, Ha19⟩, ⟨Hc20, Ha20⟩, ⟨Hc25, Ha25⟩, ⟨Hc26, Ha26⟩, ⟨Hc29, Ha29⟩, ⟨Hc30, Ha30⟩, HtL, HtR, Hk⟩
  unfold segF
  rw [k0_part40_eq_skeleton]
  simp only [k0_part40_skel, atBufs, Prog.lift, Prog.bind_op, Prog.bind_ret, Prog.pure_eq_ret]
  sl_exec
  ihave Hout := (Entails.of_eq (congrArg (wpt outM c fullShare) (writesOut (I.own c) (I.out c) _ _ _ _ ?h0 ?h1 ?h2 ?h3))) $$ Hout
  case h0 => exact fun x => out_emb (I.own c) (I.crF (lf c)) (I.clF (rt c)) 0 0 0 0 rfl rfl _ _ x
  case h1 => exact fun x => out_emb (I.own c) (I.crF (lf c)) (I.clF (rt c)) 0 1 512 512 rfl rfl _ _ x
  case h2 => exact fun x => out_emb (I.own c) (I.crF (lf c)) (I.clF (rt c)) 1 0 1024 0 rfl rfl _ _ x
  case h3 => exact fun x => out_emb (I.own c) (I.crF (lf c)) (I.clF (rt c)) 1 1 1536 512 rfl rfl _ _ x
  iapply (waitD I K c (x0 xlM) (xLo) 5 2 1 (dmaPay I c 5) (by decide) rfl (by decide) (by decide) rfl) $$ [Hc5 HO Ha5]
  · isplitr; · iexact HC
    isplitl [Hc5]; · iexact Hc5
    isplitl [HO]; · iexact HO
    iexact Ha5
  iintro ⟨HO, Hs5, Hb5⟩
  sl_exec
  iapply (waitD I K c (x1 xlM) (xHi) 6 2 1 (dmaPay I c 6) (by decide) rfl (by decide) (by decide) rfl) $$ [Hc6 HO Ha6]
  · isplitr; · iexact HC
    isplitl [Hc6]; · iexact Hc6
    isplitl [HO]; · iexact HO
    iexact Ha6
  iintro ⟨HO, Hs6, Hb6⟩
  sl_exec
  iapply (waitD I K c (x0 xrM) (xLo) 7 2 1 (dmaPay I c 7) (by decide) rfl (by decide) (by decide) rfl) $$ [Hc7 HO Ha7]
  · isplitr; · iexact HC
    isplitl [Hc7]; · iexact Hc7
    isplitl [HO]; · iexact HO
    iexact Ha7
  iintro ⟨HO, Hs7, Hb7⟩
  sl_exec
  iapply (waitD I K c (x1 xrM) (xHi) 8 2 1 (dmaPay I c 8) (by decide) rfl (by decide) (by decide) rfl) $$ [Hc8 HO Ha8]
  · isplitr; · iexact HC
    isplitl [Hc8]; · iexact Hc8
    isplitl [HO]; · iexact HO
    iexact Ha8
  iintro ⟨HO, Hs8, Hb8⟩
  sl_exec
  iapply (waitD I K c (wlM) (wsM) 9 2 1 (dmaPay I c 9) (by decide) rfl (by decide) (by decide) rfl) $$ [Hc9 HO Ha9]
  · isplitr; · iexact HC
    isplitl [Hc9]; · iexact Hc9
    isplitl [HO]; · iexact HO
    iexact Ha9
  iintro ⟨HO, Hs9, Hb9⟩
  sl_exec
  iapply (waitD I K c (wrM) (wsM) 10 2 1 (dmaPay I c 10) (by decide) rfl (by decide) (by decide) rfl) $$ [Hc10 HO Ha10]
  · isplitr; · iexact HC
    isplitl [Hc10]; · iexact Hc10
    isplitl [HO]; · iexact HO
    iexact Ha10
  iintro ⟨HO, Hs10, Hb10⟩
  sl_exec
  iapply (waitD I K c (x0 xoM) (x0 xlM) 17 2 1 (dmaPay I c 17) (by decide) rfl (by decide) (by decide) rfl) $$ [Hc17 HO Ha17]
  · isplitr; · iexact HC
    isplitl [Hc17]; · iexact Hc17
    isplitl [HO]; · iexact HO
    iexact Ha17
  iintro ⟨HO, Hs17, Hb17⟩
  sl_exec
  iapply (waitD I K c (x1 xoM) (x1 xrM) 18 2 1 (dmaPay I c 18) (by decide) rfl (by decide) (by decide) rfl) $$ [Hc18 HO Ha18]
  · isplitr; · iexact HC
    isplitl [Hc18]; · iexact Hc18
    isplitl [HO]; · iexact HO
    iexact Ha18
  iintro ⟨HO, Hs18, Hb18⟩
  sl_exec
  iapply (waitD I K c (w0 woM) (w0 wlM) 19 2 1 (dmaPay I c 19) (by decide) rfl (by decide) (by decide) rfl) $$ [Hc19 HO Ha19]
  · isplitr; · iexact HC
    isplitl [Hc19]; · iexact Hc19
    isplitl [HO]; · iexact HO
    iexact Ha19
  iintro ⟨HO, Hs19, Hb19⟩
  sl_exec
  iapply (waitD I K c (w1 woM) (w1 wrM) 20 2 1 (dmaPay I c 20) (by decide) rfl (by decide) (by decide) rfl) $$ [Hc20 HO Ha20]
  · isplitr; · iexact HC
    isplitl [Hc20]; · iexact Hc20
    isplitl [HO]; · iexact HO
    iexact Ha20
  iintro ⟨HO, Hs20, Hb20⟩
  sl_exec
  iapply (waitD I K c (hlM) (c0 coM) 25 2 1 (dmaPay I c 25) (by decide) rfl (by decide) (by decide) rfl) $$ [Hc25 HO Ha25]
  · isplitr; · iexact HC
    isplitl [Hc25]; · iexact Hc25
    isplitl [HO]; · iexact HO
    iexact Ha25
  iintro ⟨HO, Hs25, Hb25⟩
  sl_exec
  iapply (waitD I K c (hrM) (c1 coM) 26 2 1 (dmaPay I c 26) (by decide) rfl (by decide) (by decide) rfl) $$ [Hc26 HO Ha26]
  · isplitr; · iexact HC
    isplitl [Hc26]; · iexact Hc26
    isplitl [HO]; · iexact HO
    iexact Ha26
  iintro ⟨HO, Hs26, Hb26⟩
  sl_exec
  iapply (waitD I K c (rlM) (crM) 29 2 1 (dmaPay I c 29) (by decide) rfl (by decide) (by decide) rfl) $$ [Hc29 HO Ha29]
  · isplitr; · iexact HC
    isplitl [Hc29]; · iexact Hc29
    isplitl [HO]; · iexact HO
    iexact Ha29
  iintro ⟨HO, Hs29, Hb29⟩
  sl_exec
  iapply (waitD I K c (rrM) (clM) 30 2 1 (dmaPay I c 30) (by decide) rfl (by decide) (by decide) rfl) $$ [Hc30 HO Ha30]
  · isplitr; · iexact HC
    isplitl [Hc30]; · iexact Hc30
    isplitl [HO]; · iexact HO
    iexact Ha30
  iintro ⟨HO, Hs30, Hb30⟩
  sl_exec
  simp only [semSignalWord, Prog.lift, Prog.bind_op, Prog.bind_ret, Prog.pure_eq_ret]
  iapply (sigEndL I K c _ (dv17 c)) $$ [HO HtL]
  · isplitr; · iexact HC
    isplitl [HO]; · iexact HO
    iexact HtL
  iintro HO
  rw [wp_ret]
  imodintro
  iapply (sigEndR I K c _ (dv18 c)) $$ [HO HtR]
  · isplitr; · iexact HC
    isplitl [HO]; · iexact HO
    iexact HtR
  iintro HO
  rw [wp_ret]
  imodintro
  unfold back
  iapply Hk
  isplitl [HO]; · iexact HO
  isplitl [Hout]; · iexact Hout
  isplitl [Hrl]; · iexact Hrl
  isplitl [Hrr]; · iexact Hrr
  isplitl [Hs5 Hb5]
  · isplitl [Hs5]; · iexact Hs5
    iexact Hb5
  isplitl [Hs6 Hb6]
  · isplitl [Hs6]; · iexact Hs6
    iexact Hb6
  isplitl [Hs7 Hb7]
  · isplitl [Hs7]; · iexact Hs7
    iexact Hb7
  isplitl [Hs8 Hb8]
  · isplitl [Hs8]; · iexact Hs8
    iexact Hb8
  isplitl [Hs9 Hb9]
  · isplitl [Hs9]; · iexact Hs9
    iexact Hb9
  isplitl [Hs10 Hb10]
  · isplitl [Hs10]; · iexact Hs10
    iexact Hb10
  isplitl [Hs17 Hb17]
  · isplitl [Hs17]; · iexact Hs17
    iexact Hb17
  isplitl [Hs18 Hb18]
  · isplitl [Hs18]; · iexact Hs18
    iexact Hb18
  isplitl [Hs19 Hb19]
  · isplitl [Hs19]; · iexact Hs19
    iexact Hb19
  isplitl [Hs20 Hb20]
  · isplitl [Hs20]; · iexact Hs20
    iexact Hb20
  isplitl [Hs25 Hb25]
  · isplitl [Hs25]; · iexact Hs25
    iexact Hb25
  isplitl [Hs26 Hb26]
  · isplitl [Hs26]; · iexact Hs26
    iexact Hb26
  isplitl [Hs29 Hb29]
  · isplitl [Hs29]; · iexact Hs29
    iexact Hb29
  isplitl [Hs30]; · iexact Hs30
  iexact Hb30

end Cert.KernelIdeal.Moe
-- ==== Proof.KI.Body.lean ====
/-
The kernel's body from end to end: what a core holds before it and what it holds after.
-/
module

public import proofs.«01_k».proof.Proof.KI.PhaseA
public import proofs.«01_k».proof.Proof.KI.PhaseB
public import proofs.«01_k».proof.Proof.KI.PhaseF

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- A buffer of two blocks at contents not named is two halves at contents not named. -/
theorem x_any (M : Memref sig .tc .vmem S2x1024x512 .bf16) (c : Dev nD) : (mAny M c : sProp 𝕄) ⊢ iprop(mAny (x0 M) c ∗ mAny (x1 M) c) := by
  unfold mAny
  iintro ⟨%f, H⟩
  ihave H := (x_halves c fullShare M f).mp $$ H
  icases H with ⟨H0, H1⟩
  isplitl [H0]; · iexists f; iexact H0
  iexists f; iexact H1
/-- The same for a buffer of gates. -/
theorem w_any (M : Memref sig .tc .vmem S2x1024x32 .bf16) (c : Dev nD) : (mAny M c : sProp 𝕄) ⊢ iprop(mAny (w0 M) c ∗ mAny (w1 M) c) := by
  unfold mAny
  iintro ⟨%f, H⟩
  ihave H := (w_halves c fullShare M f).mp $$ H
  icases H with ⟨H0, H1⟩
  isplitl [H0]; · iexists f; iexact H0
  iexists f; iexact H1

/-- A whole buffer from its left share and the two halves of its right share. -/
theorem x_join (M : Memref sig .tc .vmem S2x1024x512 .bf16) (h : M.view.set = Finset.univ) (c : Dev nD) (f : Buf (Elt F) (M.view.loc (c : Thread nD τ))) :
    iprop(wpt M c qL f ∗ mpt (x0 M) c qR f ∗ mpt (x1 M) c qR f) ⊢ (mAny M c : sProp 𝕄) := by
  rw [← mpt_eq M h]
  iintro ⟨HL, H0, H1⟩
  iapply (mAny_intro M c f)
  iapply (mpt_shares M c fullShare f).mpr
  isplitl [HL]; · iexact HL
  iapply (x_halves c qR M f).mpr
  isplitl [H0]; · iexact H0
  iexact H1
/-- The same for a buffer of gates. -/
theorem w_join (M : Memref sig .tc .vmem S2x1024x32 .bf16) (h : M.view.set = Finset.univ) (c : Dev nD) (f : Buf (Elt F) (M.view.loc (c : Thread nD τ))) :
    iprop(wpt M c qL f ∗ mpt (w0 M) c qR f ∗ mpt (w1 M) c qR f) ⊢ (mAny M c : sProp 𝕄) := by
  rw [← mpt_eq M h]
  iintro ⟨HL, H0, H1⟩
  iapply (mAny_intro M c f)
  iapply (mpt_shares M c fullShare f).mpr
  isplitl [HL]; · iexact HL
  iapply (w_halves c qR M f).mpr
  isplitl [H0]; · iexact H0
  iexact H1
/-- The partial results from their two halves. -/
theorem c_join (c : Dev nD) (f : Buf (Elt F) (coM.view.loc (c : Thread nD τ))) :
    iprop(mpt (c0 coM) c fullShare f ∗ mpt (c1 coM) c fullShare f) ⊢ (mAny coM c : sProp 𝕄) :=
  ((c_halves c fullShare coM f).mpr).trans (mAny_intro coM c f)
/-- The gates from the three shares they were sent at. -/
theorem ws_join (c : Dev nD) (f : Buf (Elt F) (wsM.view.loc (c : Thread nD τ))) :
    iprop(wpt wsM c qL f ∗ mpt wsM c qR.left f ∗ mpt wsM c qR.right f) ⊢ (mAny wsM c : sProp 𝕄) := by
  rw [← mpt_eq wsM (View.set_whole _)]
  iintro ⟨HL, H0, H1⟩
  iapply (mAny_intro wsM c f)
  iapply (mpt_shares wsM c fullShare f).mpr
  isplitl [HL]; · iexact HL
  iapply (mpt_shares wsM c qR f).mpr
  isplitl [H0]; · iexact H0
  iexact H1
/-- The token block from the shares it was sent at. -/
theorem own_join (c : Dev nD) (f : Buf (Elt F) (xM.view.loc (c : Thread nD τ))) :
    iprop(wpt xM c qL f ∗ mpt xLo c qR.left f ∗ mpt xHi c qR.left f ∗ mpt xLo c qR.right f ∗ mpt xHi c qR.right f) ⊢ (wpt xM c fullShare f : sProp 𝕄) := by
  rw [← mpt_eq xM (View.set_whole _), ← mpt_eq xM (View.set_whole _)]
  iintro ⟨HL, H0, H1, H2, H3⟩
  iapply (mpt_shares xM c fullShare f).mpr
  isplitl [HL]; · iexact HL
  iapply (mpt_shares xM c qR f).mpr
  isplitl [H0 H1]
  · iapply (own_halves c qR.left f).mpr
    isplitl [H0]; · iexact H0
    iexact H1
  · iapply (own_halves c qR.right f).mpr
    isplitl [H2]; · iexact H2
    iexact H3

/-- What holds of each of a device's own cells, cell by cell. -/
theorem own_cells (Φ : GSem nD τ sig → sProp 𝕄) (c : Dev nD) :
    (bigSep Finset.univ fun k : Fin 29 => Φ (oCell c k))
      = iprop(Φ (dCell c 5) ∗ Φ (dCell c 6) ∗ Φ (dCell c 7) ∗ Φ (dCell c 8) ∗ Φ (dCell c 9) ∗ Φ (dCell c 10) ∗ Φ (dCell c 11) ∗ Φ (dCell c 12) ∗ Φ (dCell c 13)
        ∗ Φ (dCell c 14) ∗ Φ (dCell c 15) ∗ Φ (dCell c 16) ∗ Φ (dCell c 17) ∗ Φ (dCell c 18) ∗ Φ (dCell c 19) ∗ Φ (dCell c 20) ∗ Φ (dCell c 21)
        ∗ Φ (dCell c 22) ∗ Φ (dCell c 23) ∗ Φ (dCell c 24) ∗ Φ (dCell c 25) ∗ Φ (dCell c 26) ∗ Φ (dCell c 27) ∗ Φ (dCell c 28) ∗ Φ (dCell c 29)
        ∗ Φ (dCell c 30) ∗ Φ (dCell c 31) ∗ Φ (dCell c 32) ∗ Φ (endCell c)) :=
  bigSep_univ_eq_bigSepL [0, 1, 2, 3, 4, 5, 6, 7, 8, 9, 10, 11, 12, 13, 14, 15, 16, 17, 18, 19, 20, 21, 22, 23, 24, 25, 26, 27, 28] (by decide) (by decide) fun k : Fin 29 => Φ (oCell c k)

/-- The positions on a device's own cells, cell by cell. -/
theorem ap_cells (c : Dev nD) : (bigSep Finset.univ fun k : Fin 29 => (atPos ER (oCell c k) 0 ∅ 0 : sProp 𝕄))
    = iprop(ap c 5 ∗ ap c 6 ∗ ap c 7 ∗ ap c 8 ∗ ap c 9 ∗ ap c 10 ∗ ap c 11 ∗ ap c 12 ∗ ap c 13 ∗ ap c 14 ∗ ap c 15 ∗ ap c 16 ∗ ap c 17 ∗ ap c 18 ∗ ap c 19
      ∗ ap c 20 ∗ ap c 21 ∗ ap c 22 ∗ ap c 23 ∗ ap c 24 ∗ ap c 25 ∗ ap c 26 ∗ ap c 27 ∗ ap c 28 ∗ ap c 29 ∗ ap c 30 ∗ ap c 31 ∗ ap c 32
      ∗ atPos ER (endCell c) 0 ∅ 0) :=
  own_cells (fun g => atPos ER g 0 ∅ 0) c

/-- A device's own counters at zero, one by one. -/
theorem sv_cells (c : Dev nD) : (bigSep Finset.univ fun k : Fin 29 => (semVal (oCell c k) 0 : sProp 𝕄))
    = iprop(sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19
      ∗ sv c 20 ∗ sv c 21 ∗ sv c 22 ∗ sv c 23 ∗ sv c 24 ∗ sv c 25 ∗ sv c 26 ∗ sv c 27 ∗ sv c 28 ∗ sv c 29 ∗ sv c 30 ∗ sv c 31 ∗ sv c 32
      ∗ semVal (endCell c) 0) :=
  own_cells (fun g => semVal g 0) c

/-- The rights to make the payments device c makes: its two signals on each barrier, and its copies, each paying its own and the receiver's cell. -/
def toks (c : Dev nD) : sProp 𝕄 :=
  iprop(dutyTok ER (barCell (lf c)) 0 true ∗ dutyTok ER (barCell (rt c)) 0 false ∗ dutyTok ER (endCell (lf c)) 0 true
    ∗ dutyTok ER (endCell (rt c)) 0 false ∗ tk c 5 ∗ tk c 6 ∗ tk c 7 ∗ tk c 8 ∗ tk c 9 ∗ tk c 10 ∗ tk (rt c) 11 ∗ tk (rt c) 12 ∗ tk (lf c) 13
    ∗ tk (lf c) 14 ∗ tk (rt c) 15 ∗ tk (lf c) 16 ∗ tk c 17 ∗ tk c 18 ∗ tk c 19 ∗ tk c 20 ∗ tk (rt c) 21 ∗ tk (lf c) 22 ∗ tk (rt c) 23 ∗ tk (lf c) 24
    ∗ tk c 25 ∗ tk c 26 ∗ tk (rt c) 27 ∗ tk (lf c) 28 ∗ tk c 29 ∗ tk c 30 ∗ tk (rt c) 31 ∗ tk (lf c) 32)

/-- The credits for the waits of device c for what its neighbours send. -/
def creds (c : Dev nD) : sProp 𝕄 :=
  iprop(cred (tallyAt (barCell c) () 2) ∗ cred (tallyAt (endCell c) () 2) ∗ cd c 11 ∗ cd c 12 ∗ cd c 13 ∗ cd c 14 ∗ cd c 15 ∗ cd c 16 ∗ cd c 21
    ∗ cd c 22 ∗ cd c 23 ∗ cd c 24 ∗ cd c 27 ∗ cd c 28 ∗ cd c 31 ∗ cd c 32)

/-- The scratch buffers, at contents not named. -/
def scr (c : Dev nD) : sProp 𝕄 :=
  iprop(mAny xlM c ∗ mAny xrM c ∗ mAny xoM c ∗ mAny wsM c ∗ mAny wlM c ∗ mAny wrM c ∗ mAny woM c ∗ mAny coM c ∗ mAny crM c ∗ mAny clM c ∗ mAny hlM c
    ∗ mAny hrM c ∗ mAny rlM c ∗ mAny rrM c)

/-- The staged inputs. -/
def staged (c : Dev nD) : sProp 𝕄 :=
  iprop(wpt xM c fullShare (I.x c) ∗ wpt rwM c fullShare (I.rw c) ∗ wpt ixM c fullShare (I.ix c) ∗ wpt ewM c fullShare (I.ew c))

/-- What the kernel's body starts from, beside the buffers: the cells, device c's positions on them, its rights and credits. -/
def opened (K : GSem nD τ sig → ℕ) (c : Dev nD) : sProp 𝕄 :=
  iprop(invAll I K ∗ reachedAll c ∗ reached ER (barCell (lf c)) 0 ∗ reached ER (barCell (rt c)) 0 ∗ atPos ER (barCell c) 0 ∅ 0
    ∗ (bigSep Finset.univ fun k : Fin 29 => atPos ER (oCell c k) 0 ∅ 0) ∗ toks c ∗ creds c)

/-- The scratch buffers that others write, handed to the two neighbours. -/
theorem give_intro (c : Dev nD) :
    iprop(mAny xlM c ∗ mAny xrM c ∗ mAny xoM c ∗ mAny wlM c ∗ mAny wrM c ∗ mAny woM c ∗ mAny hlM c ∗ mAny hrM c ∗ mAny rlM c ∗ mAny rrM c ∗ reachedAll c)
      ⊢ (iprop(giveL c ∗ giveR c) : sProp 𝕄) := by
  iintro ⟨Hxl, Hxr, Hxo, Hwl, Hwr, Hwo, Hhl, Hhr, Hrl, Hrr, #HR⟩
  ihave H := (x_any xlM c) $$ Hxl
  icases H with ⟨Hxl0, Hxl1⟩
  ihave H := (x_any xrM c) $$ Hxr
  icases H with ⟨Hxr0, Hxr1⟩
  ihave H := (x_any xoM c) $$ Hxo
  icases H with ⟨Hxo0, Hxo1⟩
  ihave H := (w_any woM c) $$ Hwo
  icases H with ⟨Hwo0, Hwo1⟩
  unfold giveL giveR
  isplitl [Hxl0 Hxl1 Hwl Hxo0 Hwo0 Hhl Hrl]
  · isplitl [Hxl0]; · iexact Hxl0
    isplitl [Hxl1]; · iexact Hxl1
    isplitl [Hwl]; · iexact Hwl
    isplitl [Hxo0]; · iexact Hxo0
    isplitl [Hwo0]; · iexact Hwo0
    isplitl [Hhl]; · iexact Hhl
    isplitl [Hrl]; · iexact Hrl
    iexact HR
  · isplitl [Hxr0]; · iexact Hxr0
    isplitl [Hxr1]; · iexact Hxr1
    isplitl [Hwr]; · iexact Hwr
    isplitl [Hxo1]; · iexact Hxo1
    isplitl [Hwo1]; · iexact Hwo1
    isplitl [Hhr]; · iexact Hhr
    isplitl [Hrr]; · iexact Hrr
    iexact HR

set_option maxHeartbeats 1000000 in
/-- THE BODY of device c: from the staged inputs and the scratch buffers it ends with the result I.out c staged, the inputs as they were,
    every scratch buffer back, every semaphore at zero and nothing owed. -/
theorem body_run (K : GSem nD τ sig → ℕ) (c : Dev nD) (Q : PUnit → sProp 𝕄) :
    iprop(opened I K c ∗ levAts L lv ∗ owesE c 18 ∗ scr c ∗ staged I c ∗ mAny outM c
        ∗ ((semVal (barCell c) 0 ∗ (bigSep Finset.univ fun k : Fin 29 => semVal (oCell c k) 0) ∗ scr c ∗ staged I c ∗ wpt outM c fullShare (I.out c) ∗ owesE c 0) -∗ Q ⟨⟩))
      ⊢ wp frame (wpE (defs₀ (F := F)) 𝒱₀ c none) Set.univ (body : P F PUnit) Q := by
  unfold opened
  rw [ap_cells]
  unfold toks creds scr staged
  iintro ⟨⟨#H1, #H2, #H3, #H4, H5, ⟨H6, H7, H8, H9, H10, H11, H12, H13, H14, H15, H16, H17, H18, H19, H20, H21, H22, H23, H24, H25, H26, H27, H28, H29, H30, H31, H32, H33, H34⟩, ⟨H35, H36, H37, H38, H39, H40, H41, H42, H43, H44, H45, H46, H47, H48, H49, H50, H51, H52, H53, H54, H55, H56, H57, H58, H59, H60, H61, H62, H63, H64, H65, H66⟩, ⟨H67, H68, H69, H70, H71, H72, H73, H74, H75, H76, H77, H78, H79, H80, H81, H82⟩⟩, #H83, H84, ⟨H85, H86, H87, H88, H89, H90, H91, H92, H93, H94, H95, H96, H97, H98⟩, ⟨H99, H100, H101, H102⟩, H103, Hk⟩
  rw [body_eq, wp_bind]
  ihave HG := (give_intro (F := F) c) $$ [H85 H86 H87 H89 H90 H91 H95 H96 H97 H98]
  · isplitl [H85]; · iexact H85
    isplitl [H86]; · iexact H86
    isplitl [H87]; · iexact H87
    isplitl [H89]; · iexact H89
    isplitl [H90]; · iexact H90
    isplitl [H91]; · iexact H91
    isplitl [H95]; · iexact H95
    isplitl [H96]; · iexact H96
    isplitl [H97]; · iexact H97
    isplitl [H98]; · iexact H98
    iexact H2
  icases HG with ⟨H104, H105⟩
  unfold phases
  iapply (phaseA I K c _ _)
  isplitr; · iexact H1
  isplitr; · iexact H83
  isplitr; · iexact H2
  isplitr; · iexact H3
  isplitr; · iexact H4
  isplitl [H84]; · iexact H84
  isplitl [H35]; · iexact H35
  isplitl [H36]; · iexact H36
  isplitl [H104]; · iexact H104
  isplitl [H105]; · iexact H105
  isplitl [H67]; · iexact H67
  isplitl [H5]; · iexact H5
  isplitl [H99]; · iexact H99
  isplitl [H100]; · iexact H100
  isplitl [H101]; · iexact H101
  isplitl [H88]; · iexact H88
  isplitl [H39]; · iexact H39
  isplitl [H45]; · iexact H45
  isplitl [H40]; · iexact H40
  isplitl [H46]; · iexact H46
  isplitl [H41]; · iexact H41
  isplitl [H47]; · iexact H47
  isplitl [H42]; · iexact H42
  isplitl [H48]; · iexact H48
  isplitl [H43]; · iexact H43
  isplitl [H49]; · iexact H49
  isplitl [H44]; · iexact H44
  isplitl [H50]; · iexact H50
  isplitl [H51]; · iexact H51
  isplitl [H55]; · iexact H55
  isplitl [H52]; · iexact H52
  isplitl [H56]; · iexact H56
  isplitl [H53]; · iexact H53
  isplitl [H57]; · iexact H57
  isplitl [H69 H12]
  · isplitl [H69]; · iexact H69
    iexact H12
  isplitl [H70 H13]
  · isplitl [H70]; · iexact H70
    iexact H13
  isplitl [H71 H14]
  · isplitl [H71]; · iexact H71
    iexact H14
  isplitl [H72 H15]
  · isplitl [H72]; · iexact H72
    iexact H15
  isplitl [H73 H16]
  · isplitl [H73]; · iexact H73
    iexact H16
  isplitl [H74 H17]
  · isplitl [H74]; · iexact H74
    iexact H17
  iintro ⟨#HC, H106, H107, H100, H101, H108, H109, H110, H111, H112, H113, H114, H115, H116, H117, H118, H119, H120, H121, H122, H123, H124, H125, H126, H127, H128, H129, H130, H131, H132, H133, H134, H135, H136⟩
  iapply (phaseB I K c _ _ _ _)
  isplitr; · iexact HC
  isplitl [H106]; · iexact H106
  isplitl [H102]; · iexact H102
  isplitl [H111]; · iexact H111
  isplitl [H115]; · iexact H115
  isplitl [H93]; · iexact H93
  isplitl [H116]; · iexact H116
  isplitl [H54]; · iexact H54
  isplitl [H58]; · iexact H58
  isplitl [H75 H22]
  · isplitl [H75]; · iexact H75
    iexact H22
  isplitl [H76 H23]
  · isplitl [H76]; · iexact H76
    iexact H23
  isplitl [H77 H24]
  · isplitl [H77]; · iexact H77
    iexact H24
  isplitl [H78 H25]
  · isplitl [H78]; · iexact H78
    iexact H25
  iintro ⟨H137, H102, H111, H138, H139, H140, H141, H142, H143, H144, H145, H146, H147⟩
  iapply (phaseC I K c _ _ _ _)
  isplitr; · iexact HC
  isplitl [H137]; · iexact H137
  isplitl [H102]; · iexact H102
  isplitl [H142]; · iexact H142
  isplitl [H143]; · iexact H143
  isplitl [H92]; · iexact H92
  isplitl [H109]; · iexact H109
  isplitl [H113]; · iexact H113
  isplitl [H117]; · iexact H117
  isplitl [H119]; · iexact H119
  isplitl [H59]; · iexact H59
  isplitl [H61]; · iexact H61
  isplitl [H60]; · iexact H60
  isplitl [H62]; · iexact H62
  iintro ⟨H148, H102, H142, H143, H109, H113, H149, H150⟩
  iapply (phaseD I K c _ _ _ _)
  isplitr; · iexact HC
  isplitl [H148]; · iexact H148
  isplitl [H102]; · iexact H102
  isplitl [H109]; · iexact H109
  isplitl [H113]; · iexact H113
  isplitl [H94]; · iexact H94
  isplitl [H140]; · iexact H140
  isplitl [H79]; · iexact H79
  isplitl [H28]; · iexact H28
  isplitl [H80]; · iexact H80
  isplitl [H29]; · iexact H29
  iintro ⟨H148, H102, H109, H113, H151, H152, H153, H154, H155, H156⟩
  iapply (phaseE I K c _ _ _ _)
  isplitr; · iexact HC
  isplitl [H148]; · iexact H148
  isplitl [H102]; · iexact H102
  isplitl [H107]; · iexact H107
  isplitl [H108]; · iexact H108
  isplitl [H151]; · iexact H151
  isplitl [H152]; · iexact H152
  isplitl [H154]; · iexact H154
  isplitl [H103]; · iexact H103
  isplitl [H118]; · iexact H118
  isplitl [H120]; · iexact H120
  isplitl [H63]; · iexact H63
  isplitl [H65]; · iexact H65
  isplitl [H64]; · iexact H64
  isplitl [H66]; · iexact H66
  isplitl [H81]; · iexact H81
  isplitl [H32]; · iexact H32
  isplitl [H82]; · iexact H82
  isplitl [H33]; · iexact H33
  iintro ⟨H157, H102, H107, H108, H154, H158, H159, H160, H161, H162, H163, H164⟩
  iapply (phaseF I K c _)
  isplitr; · iexact HC
  isplitl [H157]; · iexact H157
  isplitl [H158]; · iexact H158
  isplitl [H159]; · iexact H159
  isplitl [H160]; · iexact H160
  isplitl [H121 H6]
  · isplitl [H121]; · iexact H121
    iexact H6
  isplitl [H122 H7]
  · isplitl [H122]; · iexact H122
    iexact H7
  isplitl [H123 H8]
  · isplitl [H123]; · iexact H123
    iexact H8
  isplitl [H124 H9]
  · isplitl [H124]; · iexact H124
    iexact H9
  isplitl [H125 H10]
  · isplitl [H125]; · iexact H125
    iexact H10
  isplitl [H126 H11]
  · isplitl [H126]; · iexact H126
    iexact H11
  isplitl [H127 H18]
  · isplitl [H127]; · iexact H127
    iexact H18
  isplitl [H128 H19]
  · isplitl [H128]; · iexact H128
    iexact H19
  isplitl [H129 H20]
  · isplitl [H129]; · iexact H129
    iexact H20
  isplitl [H141 H21]
  · isplitl [H141]; · iexact H141
    iexact H21
  isplitl [H149 H26]
  · isplitl [H149]; · iexact H149
    iexact H26
  isplitl [H150 H27]
  · isplitl [H150]; · iexact H150
    iexact H27
  isplitl [H161 H30]
  · isplitl [H161]; · iexact H161
    iexact H30
  isplitl [H162 H31]
  · isplitl [H162]; · iexact H162
    iexact H31
  isplitl [H37]; · iexact H37
  isplitl [H38]; · iexact H38
  iintro ⟨H165, H166, H159, H160, H167, H168, H169, H170, H171, H172, H173, H174, H175, H176, H177, H178, H179, H180⟩
  iapply (waitEnd I K c)
  isplitr; · iexact HC
  isplitl [H68]; · iexact H68
  isplitl [H165]; · iexact H165
  isplitl [H34]; · iexact H34
  iintro ⟨H165, H181⟩
  unfold back
  icases H167 with ⟨H182, B5⟩
  icases H168 with ⟨H183, B6⟩
  icases H169 with ⟨H184, B7⟩
  icases H170 with ⟨H185, B8⟩
  icases H171 with ⟨H186, B9⟩
  icases H172 with ⟨H187, B10⟩
  icases H173 with ⟨H188, B17⟩
  icases H174 with ⟨H189, B18⟩
  icases H175 with ⟨H190, B19⟩
  icases H176 with ⟨H191, B20⟩
  icases H177 with ⟨H192, B25⟩
  icases H178 with ⟨H193, B26⟩
  icases H179 with ⟨H194, B29⟩
  icases H180 with ⟨H195, B30⟩
  ihave B5 := (Entails.of_eq (show dmaPay I c (5 : DmaSem sig).val = mpt xLo c qR.left (I.x c) from rfl)) $$ B5
  ihave B6 := (Entails.of_eq (show dmaPay I c (6 : DmaSem sig).val = mpt xHi c qR.left (I.x c) from rfl)) $$ B6
  ihave B7 := (Entails.of_eq (show dmaPay I c (7 : DmaSem sig).val = mpt xLo c qR.right (I.x c) from rfl)) $$ B7
  ihave B8 := (Entails.of_eq (show dmaPay I c (8 : DmaSem sig).val = mpt xHi c qR.right (I.x c) from rfl)) $$ B8
  ihave B9 := (Entails.of_eq (show dmaPay I c (9 : DmaSem sig).val = mpt wsM c qR.left (I.w c) from rfl)) $$ B9
  ihave B10 := (Entails.of_eq (show dmaPay I c (10 : DmaSem sig).val = mpt wsM c qR.right (I.w c) from rfl)) $$ B10
  ihave B17 := (Entails.of_eq (show dmaPay I c (17 : DmaSem sig).val = mpt (x0 xlM) c qR (I.xb (lf c)) from rfl)) $$ B17
  ihave B18 := (Entails.of_eq (show dmaPay I c (18 : DmaSem sig).val = mpt (x1 xrM) c qR (I.xb (rt c)) from rfl)) $$ B18
  ihave B19 := (Entails.of_eq (show dmaPay I c (19 : DmaSem sig).val = mpt (w0 wlM) c qR (I.w (lf c)) from rfl)) $$ B19
  ihave B20 := (Entails.of_eq (show dmaPay I c (20 : DmaSem sig).val = mpt (w1 wrM) c qR (I.w (rt c)) from rfl)) $$ B20
  ihave B25 := (Entails.of_eq (show dmaPay I c (25 : DmaSem sig).val = mpt (c0 coM) c fullShare (I.co c) from rfl)) $$ B25
  ihave B26 := (Entails.of_eq (show dmaPay I c (26 : DmaSem sig).val = mpt (c1 coM) c fullShare (I.co c) from rfl)) $$ B26
  ihave B29 := (Entails.of_eq (show dmaPay I c (29 : DmaSem sig).val = mpt crM c fullShare (I.crF c) from rfl)) $$ B29
  ihave B30 := (Entails.of_eq (show dmaPay I c (30 : DmaSem sig).val = mpt clM c fullShare (I.clF c) from rfl)) $$ B30
  ihave Sx := (own_join c (I.x c)) $$ [H107 B5 B6 B7 B8]
  · isplitl [H107]; · iexact H107
    isplitl [B5]; · iexact B5
    isplitl [B6]; · iexact B6
    isplitl [B7]; · iexact B7
    iexact B8
  ihave Sws := (ws_join c (I.w c)) $$ [H108 B9 B10]
  · isplitl [H108]; · iexact H108
    isplitl [B9]; · iexact B9
    iexact B10
  ihave Sxl := (x_join xlM (View.set_whole _) c (I.xb (lf c))) $$ [H109 B17 H110]
  · isplitl [H109]; · iexact H109
    isplitl [B17]; · iexact B17
    iexact H110
  ihave Sxr := (x_join xrM (View.set_whole _) c (I.xb (rt c))) $$ [H111 H112 B18]
  · isplitl [H111]; · iexact H111
    isplitl [H112]; · iexact H112
    iexact B18
  ihave Swl := (w_join wlM (View.set_whole _) c (I.w (lf c))) $$ [H113 B19 H114]
  · isplitl [H113]; · iexact H113
    isplitl [B19]; · iexact B19
    iexact H114
  ihave Swr := (w_join wrM (View.set_whole _) c (I.w (rt c))) $$ [H138 H139 B20]
  · isplitl [H138]; · iexact H138
    isplitl [H139]; · iexact H139
    iexact B20
  ihave Sco := (c_join c (I.co c)) $$ [B25 B26]
  · isplitl [B25]; · iexact B25
    iexact B26
  ihave Scr := (mAny_intro crM c (I.crF c)) $$ [B29]
  · iexact B29
  ihave Scl := (mAny_intro clM c (I.clF c)) $$ [B30]
  · iexact B30
  ihave Sxo := (mAny_intro_whole xoM (View.set_whole _) c (I.xb (opp c))) $$ [H142]
  · iexact H142
  ihave Swo := (mAny_intro_whole woM (View.set_whole _) c (I.w (opp c))) $$ [H143]
  · iexact H143
  ihave Shl := (mAny_intro_whole hlM (View.set_whole _) c (I.hl c)) $$ [H153]
  · iexact H153
  ihave Shr := (mAny_intro_whole hrM (View.set_whole _) c (I.hr c)) $$ [H154]
  · iexact H154
  ihave Srl := (mAny_intro_whole rlM (View.set_whole _) c (I.crF (lf c))) $$ [H159]
  · iexact H159
  ihave Srr := (mAny_intro_whole rrM (View.set_whole _) c (I.clF (rt c))) $$ [H160]
  · iexact H160
  iapply Hk
  isplitl [H136]; · iexact H136
  isplitl [H182 H183 H184 H185 H186 H187 H130 H131 H132 H133 H134 H135 H188 H189 H190 H191 H144 H145 H146 H147 H192 H193 H155 H156 H194 H195 H163 H164 H181]
  · rw [sv_cells]
    isplitl [H182]; · iexact H182
    isplitl [H183]; · iexact H183
    isplitl [H184]; · iexact H184
    isplitl [H185]; · iexact H185
    isplitl [H186]; · iexact H186
    isplitl [H187]; · iexact H187
    isplitl [H130]; · iexact H130
    isplitl [H131]; · iexact H131
    isplitl [H132]; · iexact H132
    isplitl [H133]; · iexact H133
    isplitl [H134]; · iexact H134
    isplitl [H135]; · iexact H135
    isplitl [H188]; · iexact H188
    isplitl [H189]; · iexact H189
    isplitl [H190]; · iexact H190
    isplitl [H191]; · iexact H191
    isplitl [H144]; · iexact H144
    isplitl [H145]; · iexact H145
    isplitl [H146]; · iexact H146
    isplitl [H147]; · iexact H147
    isplitl [H192]; · iexact H192
    isplitl [H193]; · iexact H193
    isplitl [H155]; · iexact H155
    isplitl [H156]; · iexact H156
    isplitl [H194]; · iexact H194
    isplitl [H195]; · iexact H195
    isplitl [H163]; · iexact H163
    isplitl [H164]; · iexact H164
    iexact H181
  isplitl [Sxl Sxr Sxo Sws Swl Swr Swo Sco Scr Scl Shl Shr Srl Srr]
  · isplitl [Sxl]; · iexact Sxl
    isplitl [Sxr]; · iexact Sxr
    isplitl [Sxo]; · iexact Sxo
    isplitl [Sws]; · iexact Sws
    isplitl [Swl]; · iexact Swl
    isplitl [Swr]; · iexact Swr
    isplitl [Swo]; · iexact Swo
    isplitl [Sco]; · iexact Sco
    isplitl [Scr]; · iexact Scr
    isplitl [Scl]; · iexact Scl
    isplitl [Shl]; · iexact Shl
    isplitl [Shr]; · iexact Shr
    isplitl [Srl]; · iexact Srl
    iexact Srr
  isplitl [Sx H100 H101 H102]
  · isplitl [Sx]; · iexact Sx
    isplitl [H100]; · iexact H100
    isplitl [H101]; · iexact H101
    iexact H102
  isplitl [H166]; · iexact H166
  iexact H165

end Cert.KernelIdeal.Moe
-- ==== Proof.KI.Region.lean ====
/-
The kernel as one region of the program: what each window's staging buffer holds before and after the body, the body's obligation, and
what the arrays hold when the region is left.
-/
module

public import proofs.«01_k».proof.Proof.KI.Body
public import proofs.«01_k».proof.Proof.Gen.KernelIdeal.Frame
public import Idealize.ShloMosaic.Lib.Pipeline.RegionTalk
public import Idealize.ShloMosaic.Lib.Pipeline.ValueKit.Geometry

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What each device's inputs are: the tokens, the router's weights, the chosen experts, and the experts' matrices in one column of rows. -/
def inp : Inp F where
  x c := V m c main_arg0
  rw c := V m c main_arg1
  ix c := V m c main_arg2
  ew c := V m c main_v1

/-- Device c's buffers at launch, when the kernel is entered, and when it is left. -/
def V₀ (c : Dev nD) : Valuation τ sig (Elt F) := fun b => m (c, b)
/-- A device's buffers before the region. -/
def V₁ (c : Dev nD) : Valuation τ sig (Elt F) := StableHlo.after hostOps0 (V₀ m c)
/-- A device's buffers after the region: the result is written. -/
def V₂ (c : Dev nD) : Valuation τ sig (Elt F) := Function.update (V₁ m c) (Proc.devRef .tc main_v2) ((inp m).out c)

/-- After the region the result's buffer holds the result. -/
theorem V₂_v2 (c : Dev nD) : V₂ m c main_v2 = (inp m).out c := Function.update_self ..
/-- The region changes no other buffer. -/
theorem V₂_ne (c : Dev nD) (b : Ref sig .tc) (h : (Proc.devRef .tc b : DevRef τ sig) ≠ Proc.devRef .tc main_v2) : V₂ m c b = V₁ m c b :=
  Function.update_of_ne h ..

/-- What the body starts from beside its staged windows. -/
def Xk (c : Dev nD) : sProp 𝕄 := iprop((∃ K, opened (inp m) K c) ∗ levAts L lv)
/-- The counters it leaves at zero. -/
def svs (c : Dev nD) : sProp 𝕄 := bigSep Finset.univ fun k : Fin 29 => semVal (oCell c k) 0

/-- What the body has besides its windows, before it. -/
def Φ₀ (c : Dev nD) : sProp 𝕄 := iprop(Xk m c ∗ scr c ∗ ∃ r, prngReg c r)
/-- What the body has besides its windows, after it. -/
def Φ₁ (c : Dev nD) : sProp 𝕄 := iprop(semVal (barCell c) 0 ∗ svs c ∗ scr c ∗ ∃ r, prngReg c r)

/-- The region's data: each input's staging buffer holds the device's input before and after the body; the result's holds the result after. -/
def dat0 (c : Dev nD) : Dat τ (Elt F) Unit ℕ UU ℕ cfg0 c where
  A w := V m c (Pipeline.arrRef spec0 w)
  after w _ := match w with
    | 0 => (inp m).x c
    | 1 => (inp m).rw c
    | 2 => (inp m).ix c
    | 3 => (inp m).ew c
    | 4 => (inp m).out c
    | ⟨_ + 5, h⟩ => absurd h (Nat.not_lt.2 (Nat.le_add_left _ _))
  Φ t := if t.val = 0 then Φ₀ m c else Φ₁ c
  q _ := fullShare
  owed t := if t.val = 0 then owed c 18 else 0

/-- The tokens' window is the whole array. -/
theorem index0 : ∀ t : Fin cfg0.N, win0_0.index t = ![0, 0] := (by decide +kernel : ∀ t : Fin grid0.N, win0_0.index t = ![0, 0])
/-- The router's window is the whole array. -/
theorem index1 : ∀ t : Fin cfg0.N, win0_1.index t = ![0, 0] := (by decide +kernel : ∀ t : Fin grid0.N, win0_1.index t = ![0, 0])
/-- The chosen experts' window is the whole array. -/
theorem index2 : ∀ t : Fin cfg0.N, win0_2.index t = ![0, 0] := (by decide +kernel : ∀ t : Fin grid0.N, win0_2.index t = ![0, 0])
/-- The experts' matrices' window is the whole array. -/
theorem index3 : ∀ t : Fin cfg0.N, win0_3.index t = ![0, 0] := (by decide +kernel : ∀ t : Fin grid0.N, win0_3.index t = ![0, 0])

/-- Each input's only block is the device's input. -/
theorem iblk0 (c : Dev nD) (t : Fin cfg0.N) : iblk m c 0 t = (inp m).x c := by
  funext j; blk_simp [iblk]; exact congrArg (V m c main_arg0) (by blk_ext [index0])
/-- The router's block is the device's router. -/
theorem iblk1 (c : Dev nD) (t : Fin cfg0.N) : iblk m c 1 t = (inp m).rw c := by
  funext j; blk_simp [iblk]; exact congrArg (V m c main_arg1) (by blk_ext [index1])
/-- The chosen experts' block is the device's. -/
theorem iblk2 (c : Dev nD) (t : Fin cfg0.N) : iblk m c 2 t = (inp m).ix c := by
  funext j; blk_simp [iblk]; exact congrArg (V m c main_arg2) (by blk_ext [index2])
/-- The experts' matrices' block is the device's. -/
theorem iblk3 (c : Dev nD) (t : Fin cfg0.N) : iblk m c 3 t = (inp m).ew c := by
  funext j; blk_simp [iblk]; exact congrArg (V m c main_v1) (by blk_ext [index3])

/-- The body finds the device's tokens. -/
theorem before0 (c : Dev nD) (t : Fin cfg0.N) (d) : (dat0 m c).before 0 t d = (inp m).x c :=
  (((dat0 m c).before_in_eq_fetched 0 rfl (fun _ => rfl) (fun _ _ _ => rfl) (fun t => (iblk0 m c t).symm) t d).trans
    (show _ = iblk m c 0 t from rfl)).trans (iblk0 m c t)
/-- The body finds the device's router. -/
theorem before1 (c : Dev nD) (t : Fin cfg0.N) (d) : (dat0 m c).before 1 t d = (inp m).rw c :=
  (((dat0 m c).before_in_eq_fetched 1 rfl (fun _ => rfl) (fun _ _ _ => rfl) (fun t => (iblk1 m c t).symm) t d).trans
    (show _ = iblk m c 1 t from rfl)).trans (iblk1 m c t)
/-- The body finds the device's chosen experts. -/
theorem before2 (c : Dev nD) (t : Fin cfg0.N) (d) : (dat0 m c).before 2 t d = (inp m).ix c :=
  (((dat0 m c).before_in_eq_fetched 2 rfl (fun _ => rfl) (fun _ _ _ => rfl) (fun t => (iblk2 m c t).symm) t d).trans
    (show _ = iblk m c 2 t from rfl)).trans (iblk2 m c t)
/-- The body finds the device's experts' matrices. -/
theorem before3 (c : Dev nD) (t : Fin cfg0.N) (d) : (dat0 m c).before 3 t d = (inp m).ew c :=
  (((dat0 m c).before_in_eq_fetched 3 rfl (fun _ => rfl) (fun _ _ _ => rfl) (fun t => (iblk3 m c t).symm) t d).trans
    (show _ = iblk m c 3 t from rfl)).trans (iblk3 m c t)

/-- Owning a whole buffer at a value is holding all its elements at that value. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- On entering, the body owes all 18 payments. -/
theorem owes_enter (c : Dev nD) : ((dat0 m c).owesAt () t0_0.castSucc : sProp 𝕄) ⊢ owesE c 18 := by
  unfold Dat.owesAt Pipeline.owesWithin owesE
  iintro ⟨%W, -, H⟩; iexists W; iexact H

/-- On leaving, the body owes nothing. -/
theorem owes_leave (c : Dev nD) : (owesE c 0 : sProp 𝕄) ⊢ (dat0 m c).owesAt () t0_0.succ := by
  unfold Dat.owesAt Pipeline.owesWithin Dat.bound owesE
  iintro ⟨%W, H⟩; iexists W
  isplitr; · ipureintro; exact fun _ _ => Or.inl trivial
  iexact H

/-- The body's obligation on device c. -/
theorem body_obligation (c : Dev nD) : BodyObligation (dat0 m c) defs₀ 𝒱₀ () Set.univ := fun t => by
  rw [fin_N0 t, bigSep_W0, bigSep_W0]
  simp only [before0, before1, before2, before3]
  rw [show (dat0 m c).Φ t0_0.castSucc = Φ₀ m c from rfl, show (dat0 m c).Φ t0_0.succ = Φ₁ c from rfl]
  unfold Φ₀ Φ₁ Xk
  show iprop((((∃ K, opened (inp m) K c) ∗ levAts L lv) ∗ scr c ∗ ∃ r, prngReg c r) ∗ (dat0 m c).owesAt () t0_0.castSucc
      ∗ (∃ _, owns (c : Thread nD τ) xM fullShare ((inp m).x c)) ∗ (∃ _, owns (c : Thread nD τ) rwM fullShare ((inp m).rw c))
      ∗ (∃ _, owns (c : Thread nD τ) ixM fullShare ((inp m).ix c)) ∗ (∃ _, owns (c : Thread nD τ) ewM fullShare ((inp m).ew c))
      ∗ (∃ d, owns (c : Thread nD τ) outM fullShare ((dat0 m c).before 4 t0_0 d)))
    ⊢ wp frame (wpE (defs₀ (F := F)) 𝒱₀ c none) Set.univ (body : P F PUnit) fun _ =>
      iprop((semVal (barCell c) 0 ∗ svs c ∗ scr c ∗ ∃ r, prngReg c r) ∗ (dat0 m c).owesAt () t0_0.succ
        ∗ owns (c : Thread nD τ) xM fullShare ((inp m).x c) ∗ owns (c : Thread nD τ) rwM fullShare ((inp m).rw c)
        ∗ owns (c : Thread nD τ) ixM fullShare ((inp m).ix c) ∗ owns (c : Thread nD τ) ewM fullShare ((inp m).ew c)
        ∗ owns (c : Thread nD τ) outM fullShare ((inp m).out c))
  simp only [owns_buf]
  iintro ⟨⟨⟨⟨%K, Ho⟩, Hlev⟩, Hs, Hp⟩, HO, ⟨%_, %f0, %e0, H0⟩, ⟨%_, %f1, %e1, H1⟩, ⟨%_, %f2, %e2, H2⟩, ⟨%_, %f3, %e3, H3⟩, ⟨%_, %f4, %e4, H4⟩⟩
  subst e0 e1 e2 e3
  iapply (body_run (inp m) K c _)
  isplitl [Ho]; · iexact Ho
  isplitl [Hlev]; · iexact Hlev
  isplitl [HO]; · iapply (owes_enter m c); iexact HO
  isplitl [Hs]; · iexact Hs
  isplitl [H0 H1 H2 H3]
  · unfold staged
    isplitl [H0]; · iexact H0
    isplitl [H1]; · iexact H1
    isplitl [H2]; · iexact H2
    iexact H3
  isplitl [H4]; · iapply (mAny_intro_whole outM (Memref.isWhole_whole _).set_eq_univ c f4); iexact H4
  unfold staged svs
  iintro ⟨Hb, Hv, Hs, ⟨H0, H1, H2, H3⟩, H4, HO⟩
  isplitl [Hb Hv Hs Hp]
  · isplitl [Hb]; · iexact Hb
    isplitl [Hv]; · iexact Hv
    isplitl [Hs] <;> iassumption
  isplitl [HO]; · iapply (owes_leave m c); iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr; · ipureintro; rfl
  iexact H4

/-! ## The region -/

/-- The program's one region is admissible. -/
abbrev adm : (p : Fin 1) → (pcfgs (F := F) p).Adm := fun p => (cfgs p).toPCfg_adm

/-- The program's one region's data. -/
def pdats : (p : Fin 1) → (c : Dev nD) → Dat τ (Elt F) Unit ℕ UU ℕ (Pipeline.pin (pcfgs (F := F)) adm p) c
  | 0 => fun c => dat0 m c
  | ⟨_ + 1, h⟩ => absurd h (Nat.not_lt.2 (Nat.le_add_left _ _))

/-- What a device holds of the protocol from the launch until it opens its own cells: the invariants, the rights to open, its rights to pay. -/
def ghost (K : GSem nD τ sig → ℕ) (c : Dev nD) : sProp 𝕄 :=
  iprop(invAll (inp m) K ∗ reached ER (barCell (lf c)) 0 ∗ reached ER (barCell (rt c)) 0 ∗ atPos ER (barCell c) 0 ∅ 0
    ∗ (bigSep Finset.univ fun k : Fin 29 => openTok ER (oCell c k)) ∗ toks c)

/-- What the region takes for the protocol: the ghost state and the credits. -/
def Tk (c : Dev nD) : sProp 𝕄 := iprop((∃ K, ghost m K c) ∗ creds c)
/-- What the region gives back: the opening barrier's counter at zero. -/
def Yk (c : Dev nD) : sProp 𝕄 := semVal (barCell c) 0

/-- A device's own counters, at zero, open its own cells. -/
theorem open_own (K : GSem nD τ sig → ℕ) (c : Dev nD) :
    iprop(invAll (inp m) K ∗ (bigSep Finset.univ fun k : Fin 29 => openTok ER (oCell c k)) ∗ svs c)
      ⊢ (|={Set.univ}=> iprop((bigSep Finset.univ fun k : Fin 29 => atPos ER (oCell c k) 0 ∅ 0) ∗ reachedAll c) : sProp 𝕄) := by
  have h1 (k : Fin 29) : iprop(invAll (inp m) K ∗ (openTok ER (oCell c k) ∗ semVal (oCell c k) 0))
      ⊢ (|={Set.univ}=> iprop(atPos ER (oCell c k) 0 ∅ 0 ∗ reached ER (oCell c k) 0) : sProp 𝕄) :=
    (sep_mono_left (inv_own (inp m) K c k)).trans (Rounds.cell_open ER (Rd (inp m)) (g := oCell c k) (Set.mem_univ (K (oCell c k))))
  unfold svs reachedAll
  rw [← bigSep_sep', ← bigSep_sep']
  exact (bigSep_with_persistent fun k _ => h1 k).trans (bigSep_fupd _ _)

/-- The own counters are opened as the region is entered. -/
theorem hopen (c : Dev nD) : iprop(Tk m c ∗ Pipeline.ownSems0 osem c ∗ levAts L lv) ⊢ (|={Set.univ}=> Xk m c : sProp 𝕄) := by
  rw [show (Pipeline.ownSems0 osem c : sProp 𝕄) = svs c from rfl]
  unfold Tk Xk ghost
  iintro ⟨⟨⟨%K, #HI, #H1, #H2, Hat, Hop, Ht⟩, Hc⟩, Hv, Hlev⟩
  imod (open_own m K c) $$ [Hop Hv] with ⟨Hats, #HR⟩
  · isplitr; · iexact HI
    isplitl [Hop] <;> iassumption
  imodintro
  isplitr [Hlev]
  · iexists K; unfold opened
    isplitr; · iexact HI
    isplitr; · iexact HR
    isplitr; · iexact H1
    isplitr; · iexact H2
    isplitl [Hat]; · iexact Hat
    isplitl [Hats]; · iexact Hats
    isplitl [Ht] <;> iassumption
  iexact Hlev

/-- A whole buffer is all its elements. -/
theorem set_whole (b : Ref sig .tc) : (Memref.whole b).view.set = Finset.univ := (Memref.isWhole_whole b).set_eq_univ

/-- A whole buffer at contents not named. -/
theorem any_whole {s : Shape} {e : EltTy} (M : Memref sig .tc .vmem s e) (h : M.view.set = Finset.univ) (c : Dev nD) :
    (mAny M c : sProp 𝕄) = iprop(∃ f : Buf (Elt F) (M.view.loc (c : Thread nD τ)), wpt M c fullShare f) := by
  unfold mAny; simp only [mpt_eq M h]

/-- The scoped buffers no window stages are the scratch buffers. -/
theorem scr_eq (c : Dev nD) : (Pipeline.scopedRest (Ix := Unit) (Name := ℕ) (U := UU) (Lvl := ℕ) (Val := Elt F) spec0 c : sProp 𝕄) = scr c := by
  rw [scopedRest0_eq]
  unfold scr
  rw [any_whole xlM (set_whole _) c, any_whole xrM (set_whole _) c, any_whole xoM (set_whole _) c, any_whole wsM (set_whole _) c, any_whole wlM (set_whole _) c, any_whole wrM (set_whole _) c, any_whole woM (set_whole _) c, any_whole coM (set_whole _) c, any_whole crM (set_whole _) c, any_whole clM (set_whole _) c, any_whole hlM (set_whole _) c, any_whole hrM (set_whole _) c, any_whole rlM (set_whole _) c, any_whole rrM (set_whole _) c]

/-- What the region has at its start makes what the body starts from. -/
theorem hin (c : Dev nD) : iprop(Pipeline.scopedRest spec0 c ∗ (∃ r, prngReg c r) ∗ StableHlo.held (c.tc : Thread nD τ) ∅ (V₁ m c) ∗ Xk m c)
    ⊢ Φ₀ m c := by
  rw [scr_eq]; unfold Φ₀
  iintro ⟨Hs, Hp, -, HX⟩
  isplitl [HX]; · iexact HX
  isplitl [Hs] <;> iassumption

/-- What the body ends with makes what the region gives back. -/
theorem hout (c : Dev nD) : (Φ₁ c : sProp 𝕄)
    ⊢ iprop(Pipeline.scopedRest spec0 c ∗ (∃ r, prngReg c r) ∗ StableHlo.held (c.tc : Thread nD τ) ∅ (V₂ m c) ∗ Pipeline.ownSems0 osem c ∗ Yk c) := by
  rw [scr_eq, show (Pipeline.ownSems0 osem c : sProp 𝕄) = svs c from rfl,
    show (StableHlo.held (c.tc : Thread nD τ) ∅ (V₂ m c) : sProp 𝕄) = BI.emp from by unfold StableHlo.held; exact BI.bigSep_empty]
  unfold Φ₁ Yk
  iintro ⟨Hb, Hv, Hs, Hp⟩
  isplitl [Hs]; · iexact Hs
  isplitl [Hp]; · iexact Hp
  isplitr; · iempintro
  isplitl [Hv] <;> iassumption

/-- The launch's facts about the windows. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Every debt ranks above the windows' counters. -/
theorem rank_pos (c : Dev nD) (k : ℕ) : 0 < rankOf (debt c k).1.2 := by
  rw [rank_debt]
  rcases Nat.lt_or_ge k 17 with h | h
  · interval_cases k <;> decide
  · obtain ⟨j, rfl⟩ := Nat.exists_eq_add_of_le' h
    exact Nat.succ_pos 5

/-- The windows' waits are below everything that is owed. -/
theorem cut : Pipeline.LevelCutOwed (pcfgs (F := F)) adm (pdats m) () L lv 0 fun _ => 0 where
  hι c w s := by rw [L_tc]; exact Finset.mem_singleton_self _
  hιb c w s := by
    exact (by decide : ∀ (w : Fin 5) (s : Fin (win0 w).nbuf), rankOf (.dma ((win0 w).sem s)) ≤ 0) w s
  hD c t g i h := by
    have e : (pdats (F := F) m 0 c).owed t = if t.val = 0 then owed c 18 else 0 := rfl
    rw [e] at h
    split at h
    · obtain ⟨j, _, rfl⟩ := owed_pos c 18 g i h
      exact ⟨by unfold L; rw [if_pos (debt_tc c _)]; exact Finset.mem_singleton_self _, rank_pos c _⟩
    · exact absurd h (Nat.lt_irrefl 0)

/-- The region leaves its input arrays as they were. -/
theorem arr_in (c : Dev nD) (w : Fin 5) (n : ℕ) (h : w ≠ 4) : (dat0 m c).arrAt w n = V m c (Pipeline.arrRef spec0 w) :=
  (dat0 m c).arrAt_in w (by fin_cases w <;> first | rfl | exact absurd rfl h) n

/-- The region's output array is the device's result. -/
theorem arr_out (c : Dev nD) : (dat0 m c).arrAt 4 cfg0.N = (inp m).out c :=
  (dat0 m c).arrAt_eq_of_after_last 4 t0_0 (by decide +kernel) _ fun j => rfl

/-- Each array of the region, after it. -/
theorem arr_leave (c : Dev nD) (w : Fin 5) : (dat0 m c).arrAt w cfg0.N = V₂ m c (Proc.devRef .tc (Pipeline.arrRef spec0 w)) := by
  by_cases h : w = 4
  · subst h; exact (arr_out m c).trans (V₂_v2 m c).symm
  · rw [arr_in m c w _ h]
    refine (V₂_ne m c _ ?_).symm
    revert w; decide

set_option backward.isDefEq.respectTransparency.types false in
/-- The kernel's region: entered from the arrays as the host operation leaves them, left with the result's array at the kernel's result. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ {Proc.devRef .tc main_arg3} (Finset.empty_subset _) kit rfl (fun c => (body_obligation m c).loose)
    (fun _ => 0) (fun c => owed c 18) (fun c => (zero_add _).symm) (fun c => rfl) (fun _ => rfl) (fun c w => by unfold Dat.share; split <;> rfl)
    (V₁ m) (V₂ m) (fun c b hb => by
      obtain rfl := Finset.mem_singleton.mp (Finset.mem_sdiff.mp hb).1
      exact V₂_ne m c main_arg3 (by decide))
    (Tk m) Yk (Xk m) Yk (hopen m) (hin m) (hout m)
    (fun c => by iintro H; imodintro; iexact H)
    (fun _ => 0) (cut m) (fun _ => iprop(emp))
    (fun c w => rfl) (fun c w => arr_leave m c w)

end Cert.KernelIdeal.Moe
-- ==== Proof.KI.Launch.lean ====
/-
The run of the whole program: the launch's resources dealt to the devices, the host operation, the kernel's region, and what the final
memory holds.
-/
module

public import proofs.«01_k».proof.Proof.KI.Region
public import Idealize.ShloMosaic.Lib.Quiescent
public import Idealize.ShloMosaic.Harness.Basic

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights to pay them, as minted -/

/-- The kernel's own counters are different ones. -/
theorem osem_inj : Function.Injective osem := by decide
/-- None of the kernel's own counters is the opening barrier's. -/
theorem osem_ne_bar : ∀ k : Fin 29, osem k ≠ .reg barrier0 := by decide

/-- A device's cell of the opening barrier. -/
def barEmb : Dev nD ↪ GSem nD τ sig := ⟨fun c => barCell c, fun _ _ h => congrArg (fun g : GSem nD τ sig => g.1.1) h⟩
/-- A device's cell of its k-th own counter. -/
def ownEmb : Dev nD × Fin 29 ↪ GSem nD τ sig :=
  ⟨fun ck => oCell ck.1 ck.2, fun _ _ h => Prod.ext (congrArg (fun g : GSem nD τ sig => g.1.1) h) (osem_inj (congrArg Prod.snd h))⟩

/-- The opening barrier's cells, and the cells of the kernel's own semaphores. -/
abbrev barCells : Finset (GSem nD τ sig) := Finset.univ.map barEmb
abbrev ownCells : Finset (GSem nD τ sig) := Finset.univ.map ownEmb

/-- The opening barrier's cells are none of the own cells. -/
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The 32 duties of one device's cells: two on each barrier, one on each of its 28 DMA semaphores. -/
def tSem (k : Fin 32) : SemLoc sig :=
  if k.val < 2 then .reg barrier0 else if h : k.val < 4 then .reg (1 : Sem sig) else .dma (⟨k.val + 1, by show k.val + 1 < 33; omega⟩ : DmaSem sig)
/-- Which of its counter's payments the k-th one is. -/
def tDuty (k : Fin 32) : Bool := k.val = 0 ∨ k.val = 2
/-- The payments are different ones. -/
theorem tk_inj : Function.Injective fun k : Fin 32 => (tSem k, tDuty k) := by decide

/-- The k-th payment of a device's cells. -/
def tEmb : Dev nD × Fin 32 ↪ GSem nD τ sig × ℕ × Bool :=
  ⟨fun ck => (((ck.1 : Thread nD τ), tSem ck.2), 0, tDuty ck.2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2.2) h)))⟩

/-- All payments. -/
def allToks : Finset (GSem nD τ sig × ℕ × Bool) := Finset.univ.map tEmb

/-- The right to pay duty k of device c's cells. -/
def tokAt (c : Dev nD) (k : Fin 32) : sProp 𝕄 := dutyTok ER ((c : Thread nD τ), tSem k) 0 (tDuty k)

/-- The two neighbours as permutations of the devices. -/
def rtE : Dev nD ≃ Dev nD := ⟨rt, lf, lf_rt, rt_lf⟩
/-- The left neighbour, as a permutation of the devices. -/
def lfE : Dev nD ≃ Dev nD := ⟨lf, rt, rt_lf, lf_rt⟩

/-- Whose cell a device pays in duty k: its right neighbour's, its left neighbour's, or its own. -/
def payee (k : Fin 32) : Dev nD ≃ Dev nD :=
  if k.val ∈ [1, 3, 10, 11, 14, 20, 22, 26, 30] then rtE else if k.val ∈ [0, 2, 12, 13, 15, 21, 23, 27, 31] then lfE else Equiv.refl _

/-- The tokens of the 32 payments that a device makes, written out. -/
theorem toks_eq (c : Dev nD) : (bigSep Finset.univ fun k : Fin 32 => (tokAt (payee k c) k : sProp 𝕄)) = toks c :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide)
    fun k : Fin 32 => (tokAt (payee k c) k : sProp 𝕄)

/-- Two indices' order does not matter. -/
theorem swap_sep {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), bigSep_univ_equiv (Equiv.prodComm B A), bigSep_univ_prod]
  rfl

/-- All the rights to pay, each handed to the device that pays it. -/
theorem toks_around : bigSep allToks (fun x => (dutyTok ER x.1 x.2.1 x.2.2 : sProp 𝕄)) = bigSep Finset.univ fun c : Dev nD => toks c := by
  unfold allToks
  rw [bigSep_map, bigSep_univ_prod]
  show (bigSep Finset.univ fun c : Dev nD => bigSep Finset.univ fun k : Fin 32 => (tokAt c k : sProp 𝕄)) = _
  rw [swap_sep, bigSep_congr fun k _ => bigSep_univ_equiv (payee k) fun c : Dev nD => (tokAt c k : sProp 𝕄), swap_sep]
  exact bigSep_congr fun c _ => toks_eq c

/-- The launch's element: the pipeline's at its staging cells, the kernel's protocol's at its own. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's element whole, held on device 0 until it is dealt. -/
def G (c : Dev nD) : sProp 𝕄 := if c = 0 then BI.own (ER (launchOf barCells ownCells allToks)) else iprop(emp)

/-- The launch's ghost state is the opening barrier's, the own cells' and all payments'. -/
theorem G_eq : bigSep Finset.univ (G (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The launch credit: what the others owe each cell -/

/-- Which semaphore payment k is made to, whose, and how many units. -/
def dSem (k : ℕ) : SemLoc sig :=
  match k with
  | 0 | 1 => .reg barrier0
  | 2 => .dma (11 : DmaSem sig) | 3 => .dma (12 : DmaSem sig) | 4 => .dma (13 : DmaSem sig) | 5 => .dma (14 : DmaSem sig)
  | 6 => .dma (15 : DmaSem sig) | 7 => .dma (16 : DmaSem sig) | 8 => .dma (21 : DmaSem sig) | 9 => .dma (22 : DmaSem sig)
  | 10 => .dma (23 : DmaSem sig) | 11 => .dma (24 : DmaSem sig) | 12 => .dma (27 : DmaSem sig) | 13 => .dma (28 : DmaSem sig)
  | 14 => .dma (31 : DmaSem sig) | 15 => .dma (32 : DmaSem sig)
  | _ => .reg (1 : Sem sig)
/-- The device that the k-th debt is owed to. -/
def dTo (k : ℕ) : Dev nD ≃ Dev nD := if k ∈ [1, 2, 3, 6, 8, 10, 12, 14, 17] then rtE else lfE
/-- The amount of the k-th debt. -/
def dAmt (k : ℕ) : ℕ :=
  match k with
  | 0 | 1 | 16 | 17 => 1
  | 2 => amtOf 11 | 3 => amtOf 12 | 4 => amtOf 13 | 5 => amtOf 14 | 6 => amtOf 15 | 7 => amtOf 16 | 8 => amtOf 21 | 9 => amtOf 22
  | 10 => amtOf 23 | 11 => amtOf 24 | 12 => amtOf 27 | 13 => amtOf 28 | 14 => amtOf 31 | _ => amtOf 32

/-- The k-th debt, by its device, counter and amount. -/
theorem debt_eq (c : Dev nD) (k : ℕ) (h : k < 18) : debt c k = ((((dTo k c : Dev nD) : Thread nD τ), dSem k), dAmt k) := by
  interval_cases k <;> rfl

/-- What device d owes a cell at first is the sum of its 18 payments to it. -/
theorem owed_sum (d : Dev nD) (r : ℕ) (g : GSem nD τ sig) :
    owed d r g () = ∑ j ∈ Finset.range r, if (debt d (17 - j)).1 = g then (debt d (17 - j)).2 else 0 := by
  induction r with
  | zero => rfl
  | succ r ih =>
    rw [Finset.sum_range_succ, ← ih]
    show owed d r g () + tallyAt (debt d (17 - r)).1 () (debt d (17 - r)).2 g () = _
    rw [tallyAt_apply]
    simp only [and_true, eq_comm]

/-- What all the devices together owe a cell of device c. -/
theorem owed_total (c : Dev nD) (sm : SemLoc sig) :
    ∑ d : Dev nD, owed d 18 ((c : Thread nD τ), sm) () = ∑ j ∈ Finset.range 18, if dSem (17 - j) = sm then dAmt (17 - j) else 0 := by
  rw [Finset.sum_congr rfl fun d _ => owed_sum d 18 _, Finset.sum_comm]
  refine Finset.sum_congr rfl fun j _ => ?_
  rw [← Equiv.sum_comp (dTo (17 - j)).symm]
  rw [Finset.sum_eq_single c]
  · rw [debt_eq _ _ (by omega), Equiv.apply_symm_apply]
    simp only [Prod.mk.injEq, true_and]
  · intro d _ hd
    rw [debt_eq _ _ (by omega), Equiv.apply_symm_apply]
    exact if_neg fun h => hd (congrArg (fun g : GSem nD τ sig => g.1.1) h)
  · intro h; exact absurd (Finset.mem_univ c) h

/-- The launch credits a cell with the sum of what is owed to it. -/
theorem launch_at (c : Dev nD) (sm : SemLoc sig) (n : ℕ) (h : (∑ j ∈ Finset.range 18, if dSem (17 - j) = sm then dAmt (17 - j) else 0) = n) :
    tallyOn ((c : Thread nD τ), sm) (launchCredit (Pipeline.owing fun d => owed d 18) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, owed_total, h]

/-- A counter with one payment is owed that payment. -/
theorem sum_one (sm : SemLoc sig) (k : ℕ) (h : k < 18) (hs : ∀ j : Fin 18, dSem (17 - j.val) = sm ↔ j.val = k) :
    (∑ j ∈ Finset.range 18, if dSem (17 - j) = sm then dAmt (17 - j) else 0) = dAmt (17 - k) := by
  rw [Finset.sum_eq_single k]
  · rw [if_pos ((hs ⟨k, h⟩).mpr rfl)]
  · intro j hj hk
    exact if_neg fun e => hk ((hs ⟨j, Finset.mem_range.mp hj⟩).mp e)
  · intro hk; exact absurd (Finset.mem_range.mpr h) hk

/-- A counter with two payments of one each is owed two. -/
theorem sum_two (sm : SemLoc sig) (hs : (∑ j ∈ Finset.range 18, if dSem (17 - j) = sm then 1 else 0) = 2)
    (ha : ∀ j : Fin 18, dSem (17 - j.val) = sm → dAmt (17 - j.val) = 1) :
    (∑ j ∈ Finset.range 18, if dSem (17 - j) = sm then dAmt (17 - j) else 0) = 2 := by
  rw [← hs]
  refine Finset.sum_congr rfl fun j hj => ?_
  by_cases e : dSem (17 - j) = sm
  · rw [if_pos e, if_pos e, ha ⟨j, Finset.mem_range.mp hj⟩ e]
  · rw [if_neg e, if_neg e]

/-- The semaphores others pay. -/
abbrev credSems : List (SemLoc sig) :=
  [.reg barrier0, .reg (1 : Sem sig), .dma (11 : DmaSem sig), .dma (12 : DmaSem sig), .dma (13 : DmaSem sig), .dma (14 : DmaSem sig),
    .dma (15 : DmaSem sig), .dma (16 : DmaSem sig), .dma (21 : DmaSem sig), .dma (22 : DmaSem sig), .dma (23 : DmaSem sig), .dma (24 : DmaSem sig),
    .dma (27 : DmaSem sig), .dma (28 : DmaSem sig), .dma (31 : DmaSem sig), .dma (32 : DmaSem sig)]

/-- A device's launch credit holds the credits for its waits. -/
theorem creds_intro (c : Dev nD) : (Pipeline.launchCred (fun d => owed d 18) c : sProp 𝕄) ⊢ creds c := by
  unfold Pipeline.launchCred
  refine (BI.bigSep_subset (Finset.subset_univ credSems.toFinset)).trans ?_
  rw [bigSep_eq_bigSepL_of_eq credSems rfl (by decide)]
  have e0 := launch_at c (.reg barrier0) 2 (sum_two _ (by decide) (by decide))
  have e1 := launch_at c (.reg (1 : Sem sig)) 2 (sum_two _ (by decide) (by decide))
  have e11 := launch_at c (.dma (11 : DmaSem sig)) _ (sum_one _ 15 (by decide) (by decide))
  have e12 := launch_at c (.dma (12 : DmaSem sig)) _ (sum_one _ 14 (by decide) (by decide))
  have e13 := launch_at c (.dma (13 : DmaSem sig)) _ (sum_one _ 13 (by decide) (by decide))
  have e14 := launch_at c (.dma (14 : DmaSem sig)) _ (sum_one _ 12 (by decide) (by decide))
  have e15 := launch_at c (.dma (15 : DmaSem sig)) _ (sum_one _ 11 (by decide) (by decide))
  have e16 := launch_at c (.dma (16 : DmaSem sig)) _ (sum_one _ 10 (by decide) (by decide))
  have e21 := launch_at c (.dma (21 : DmaSem sig)) _ (sum_one _ 9 (by decide) (by decide))
  have e22 := launch_at c (.dma (22 : DmaSem sig)) _ (sum_one _ 8 (by decide) (by decide))
  have e23 := launch_at c (.dma (23 : DmaSem sig)) _ (sum_one _ 7 (by decide) (by decide))
  have e24 := launch_at c (.dma (24 : DmaSem sig)) _ (sum_one _ 6 (by decide) (by decide))
  have e27 := launch_at c (.dma (27 : DmaSem sig)) _ (sum_one _ 5 (by decide) (by decide))
  have e28 := launch_at c (.dma (28 : DmaSem sig)) _ (sum_one _ 4 (by decide) (by decide))
  have e31 := launch_at c (.dma (31 : DmaSem sig)) _ (sum_one _ 3 (by decide) (by decide))
  have e32 := launch_at c (.dma (32 : DmaSem sig)) _ (sum_one _ 2 (by decide) (by decide))
  simp only [bigSepL]
  rw [e0, e1, e11, e12, e13, e14, e15, e16, e21, e22, e23, e24, e27, e28, e31, e32]
  exact BI.Entails.refl _

/-! ## What a device holds from the launch on -/

/-- The records every device may consult: the invariants of all the cells, and the opening barrier's cells in their first round. -/
def records (κ : GSem nD τ sig → ℕ) : sProp 𝕄 :=
  iprop((bigSep (barCells ∪ ownCells) fun g => cellInv ER (Rd (inp m)) (κ g) g) ∗ bigSep barCells fun g => reached ER g 0)

instance (κ : GSem nD τ sig → ℕ) : BI.Persistent (records m κ) := by unfold records; infer_instance

/-- The cells' invariants, gathered by device. -/
theorem records_inv (κ : GSem nD τ sig → ℕ) : (bigSep (barCells ∪ ownCells) fun g => (cellInv ER (Rd (inp m)) (κ g) g : sProp 𝕄)) ⊢ invAll (inp m) κ := by
  unfold invAll
  rw [bigSep_union disjoint_cells, bigSep_map, bigSep_map]
  exact .rfl

/-- The opening barrier's cell is in its first round. -/
theorem reached_bar (c : Dev nD) : (bigSep barCells fun g => (reached ER g 0 : sProp 𝕄)) ⊢ reached ER (barCell c) 0 :=
  bigSep_elim (Finset.mem_map_of_mem barEmb (Finset.mem_univ c))

/-- What stays with one device. -/
def linear (c : Dev nD) : sProp 𝕄 :=
  iprop(atPos ER (barCell c) 0 ∅ 0 ∗ (bigSep Finset.univ fun k : Fin 29 => openTok ER (oCell c k)) ∗ toks c)

/-- The records and a device's own tokens make its ghost state. -/
theorem ghost_intro (κ : GSem nD τ sig → ℕ) (c : Dev nD) : iprop(records m κ ∗ linear c) ⊢ iprop(∃ K, ghost m K c) := by
  unfold records linear ghost
  iintro ⟨⟨#HI, #HR⟩, Hat, Hop, Ht⟩
  iexists κ
  isplitr; · iapply (records_inv m κ); iexact HI
  isplitr; · iapply (reached_bar (F := F) (lf c)); iexact HR
  isplitr; · iapply (reached_bar (F := F) (rt c)); iexact HR
  isplitl [Hat]; · iexact Hat
  isplitl [Hop] <;> iassumption

/-! ## The buffers no kernel scopes -/

/-- The buffers that outlive the kernel. -/
def bufs : Finset (DevRef τ sig) := (StableHlo.tcRefs τ sig).filter fun b => ¬ b.isScoped

/-- A device's lasting buffers are those buffers, held. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The one lasting counter is the opening barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- No other counter lasts. -/
theorem unscoped_bar : ∀ sm : SemLoc sig, sm.isScoped .tc = false → sm = .reg barrier0 := by decide

/-- What rides beside the buffers up to the region. -/
def R (c : Dev nD) : sProp 𝕄 := iprop(Tk m c ∗ (∃ r, prngReg c r) ∗ ∃ W, owes (c : Thread nD τ) (owed c 18) W)

/-- The host's operation is on lasting buffers. -/
theorem ops_sub : ∀ op ∈ (hostOps0 : List (HloOp τ sig (Elt F))), op.bufs ⊆ bufs := fun op h => by
  simp only [List.mem_singleton] at h; subst h
  show ({Proc.devRef .tc main_arg3, Proc.devRef .tc main_v1} : Finset (DevRef τ sig)) ⊆ bufs; decide

/-- The host's reshape of the experts' matrices. -/
def seg0 : Pipeline.HostSeg (Ix := Unit) (Name := ℕ) (U := UU) (Lvl := ℕ) (pcfgs (F := F)) defs₀ 𝒱₀ L lv :=
  Pipeline.HostSeg.ofOps _ _ _ _ _ bufs hostOps0 ops_sub (List.forall_iff_forall_mem.mp hostOps0_fresh) (V₀ m) (R m)

/-- The region's arrays are lasting buffers. -/
theorem arr_sub : Pipeline.arrRefs (τ := τ) spec0 ⊆ bufs := by decide
/-- The one lasting buffer that is not an array of the region is the experts' matrices before the reshape. -/
theorem arr_rest : bufs \ Pipeline.arrRefs (τ := τ) spec0 = {Proc.devRef .tc main_arg3} := by decide

/-- What is held before the region is what the region asks for. -/
theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) {Proc.devRef .tc main_arg3} (V₁ m c) ∗ emp) ∗ Tk m c ∗ ∃ Wd, owes (c : Thread nD τ) (0 + owed c 18) Wd)
  rw [StableHlo.held_sub_split _ arr_sub, arr_rest, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the region leaves is what is held after it. -/
theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) {Proc.devRef .tc main_arg3} (V₂ m c) ∗ emp) ∗ Yk c ∗ ∃ Wd, owes (c : Thread nD τ) (0 : CellTallies nD τ sig Unit) Wd) ⊢ _
  rw [StableHlo.held_sub_split _ arr_sub, arr_rest]
  unfold Yk
  iintro ⟨Ha, -, ⟨Hr, -⟩, Hb, HO⟩
  isplitr [HO]
  · isplitl [Ha Hr]; · isplitl [Ha] <;> iassumption
    iexact Hb
  iexact HO

/-- @main as its two segments. -/
def segs : List (Pipeline.Seg (pcfgs (F := F)) adm (pdats m) () defs₀ 𝒱₀ L lv) := [.host (seg0 m), .region (reg m)]

/-- What a device holds at the start. -/
abbrev T₀ (c : Dev nD) : sProp 𝕄 := iprop(StableHlo.held (c : Thread nD τ) bufs (V₀ m c) ∗ R m c)
/-- What a device holds at the end. -/
abbrev Tₙ (c : Dev nD) : sProp 𝕄 := iprop(StableHlo.held (c : Thread nD τ) bufs (V₂ m c) ∗ semVal (barCell c) 0)

/-- What of a device's launch holdings is not the protocol's. -/
def bundle (c : Dev nD) : sProp 𝕄 :=
  iprop(StableHlo.held (c : Thread nD τ) bufs (V₀ m c) ∗ creds c ∗ owes (c : Thread nD τ) (owed c 18) ∅ ∗ ∃ r, prngReg c r)

/-- A device's launch holdings make what it holds at the start. -/
theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

/-- The launch's holdings dealt to the devices. -/
theorem init :
    iprop((bigSep Finset.univ fun c : Dev nD => iprop(unscopedBufs c (fun b => m ((c : Thread nD τ).loc b)) ∗ unscopedSems0 c
          ∗ owes (c : Thread nD τ) (owed c 18) ∅ ∗ Pipeline.launchCred (fun d => owed d 18) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c 18) ∅ ∗ Pipeline.launchCred (fun d => owed d 18) c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    isplitl [Hh HO Hcr Hp]
    · isplitl [Hh]; · iexact Hh
      isplitl [Hcr]; · iapply (creds_intro (F := F) c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 29 => (openTok ER (oCell c k) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owed c 18) ∅ ∗ Pipeline.launchCred (fun d => owed d 18) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (Entails.of_eq (G_eq (F := F))) $$ HG
  imod (Rounds.fund_launch ER (Rd (inp m)) disjoint_cells (fun g _ h => h) allToks) $$ [Hv Hu] with ⟨%κ, -, #Hinv, #Hr, Hat, Hop, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hop]; · iapply hop $$ Hop
    iapply (Entails.of_eq (toks_around (F := F))) $$ Htok
  · iexact HB

/-- A buffer that the program does not write keeps its launch contents. -/
theorem V₂_arg (c : Dev nD) (b : Ref sig .tc) (h : (Proc.devRef .tc b : DevRef τ sig) ≠ Proc.devRef .tc main_v2)
    (hb : V m c b = m ((c : Thread nD τ).loc b)) : V₂ m c b = m ((c : Thread nD τ).loc b) := (V₂_ne m c b h).trans hb

/-- The lasting buffers, written out. -/
theorem held_bufs (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_v1 ↦{fullShare} W main_v1) ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

/-! ## The run -/

set_option maxHeartbeats 1000000 in
set_option backward.isDefEq.respectTransparency.types false in
/-- From any memory with the counters at zero the program on its four devices terminates on every fair schedule; in the final memory the
    arguments are as they were, each device's result is the kernel's, and every counter is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v2) = (inp m).out c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; exact .rfl)
    (by simp only [segs, Pipeline.Seg.pipes_host, Pipeline.Seg.pipes_region, Pipeline.Seg.pipes_nil]; decide)
    (O₀ := fun d => owed d 18) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3
      ∧ s.mem ((c : Thread nD τ).loc main_v2) = V₂ m c main_v2) ∧ s.sem (barCell c) = 0)
    (hfin := fun c s' => by
      dsimp only [Tₙ]; rw [held_bufs]
      iintro ⟨⟨⟨H0, H1, H2, H3, -, H5⟩, Hb0⟩, HSI⟩
      icombine HSI H0 gives %h0
      icombine HSI H1 gives %h1
      icombine HSI H2 gives %h2
      icombine HSI H3 gives %h3
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h5⟩, by simpa using hb⟩
      iexact HSI)
    (hQ := fun s h hs => ⟨fun c => by
        obtain ⟨⟨h0, h1, h2, h3, h5⟩, -⟩ := h c
        exact ⟨h0.trans (V₂_arg m c main_arg0 (by decide) (V_main_arg0 m c)), h1.trans (V₂_arg m c main_arg1 (by decide) (V_main_arg1 m c)),
          h2.trans (V₂_arg m c main_arg2 (by decide) (V_main_arg2 m c)), h3.trans (V₂_arg m c main_arg3 (by decide) (V_main_arg3 m c)),
          h5.trans (V₂_v2 m c)⟩,
      sem_eq_zero hs fun c sm hsm => by
        obtain rfl := unscoped_bar sm hsm
        exact (h c).2⟩)

end Cert.KernelIdeal.Moe
-- ==== Proof.Val.Alg.lean ====
/-
The arithmetic of one token over the extended reals, apart from any program: the weights of the two chosen experts, as the kernel and as the
reference compute them, are one nonnegative real each, and a nonnegative real factor moves out of a sum whatever the other factors are.
-/
module

public import Idealize.ShloMosaic.PureOps.Ideal
public import Mathlib.Data.EReal.Inv

@[expose] public section

noncomputable section

namespace Cert.Moe

open Idealize.ShloMosaic

/-- The share of the first of two scores. -/
def share (a b : ℝ) : ℝ := Real.exp a / (Real.exp a + Real.exp b)

/-- A share is not negative. -/
theorem share_nonneg (a b : ℝ) : 0 ≤ share a b :=
  div_nonneg (Real.exp_pos a).le (add_pos (Real.exp_pos a) (Real.exp_pos b)).le

/-- A quotient of reals with a divisor that is not zero. -/
theorem div_coe (a b : ℝ) (hb : b ≠ 0) : Ideal.div (a : EReal) (b : EReal) = ((a / b : ℝ) : EReal) := by
  unfold Ideal.div
  rw [if_neg (by simpa using hb), EReal.coe_div]
  rfl

/-- The exponential of a real is a real. -/
theorem exp_coe (a : ℝ) : Ideal.exp (a : EReal) = ((Real.exp a : ℝ) : EReal) := rfl

/-- The share does not change when both scores are shifted. -/
theorem share_shift (a b m : ℝ) : Real.exp (a - m) / (Real.exp (a - m) + Real.exp (b - m)) = share a b := by
  unfold share
  rw [Real.exp_sub, Real.exp_sub, ← add_div, div_div_div_cancel_right₀ (Real.exp_pos m).ne']

/-- The two-score softmax of the kernel. -/
theorem two_softmax (a b m : ℝ) :
    Ideal.div (Ideal.exp ((a : EReal) - (m : EReal))) (Ideal.exp ((a : EReal) - (m : EReal)) + Ideal.exp ((b : EReal) - (m : EReal))) = ((share a b : ℝ) : EReal) := by
  rw [← EReal.coe_sub, ← EReal.coe_sub, exp_coe, exp_coe, ← EReal.coe_add,
    div_coe _ _ (add_pos (Real.exp_pos _) (Real.exp_pos _)).ne', share_shift]

/-- The same with the terms of the divisor the other way round. -/
theorem two_softmax_swap (a b m : ℝ) :
    Ideal.div (Ideal.exp ((a : EReal) - (m : EReal))) (Ideal.exp ((b : EReal) - (m : EReal)) + Ideal.exp ((a : EReal) - (m : EReal))) = ((share a b : ℝ) : EReal) := by
  rw [add_comm, two_softmax]

/-- The quotient of two entries of a full softmax, whose sum is z. -/
theorem ratio_softmax (a b m z : ℝ) (hz : 0 < z) :
    Ideal.div (Ideal.div (Ideal.exp ((a : EReal) - (m : EReal))) (z : EReal))
      (Ideal.div (Ideal.exp ((a : EReal) - (m : EReal))) (z : EReal) + Ideal.div (Ideal.exp ((b : EReal) - (m : EReal))) (z : EReal)) = ((share a b : ℝ) : EReal) := by
  rw [← EReal.coe_sub, ← EReal.coe_sub, exp_coe, exp_coe, div_coe _ _ hz.ne', div_coe _ _ hz.ne', ← EReal.coe_add, ← add_div,
    div_coe _ _ (div_pos (add_pos (Real.exp_pos _) (Real.exp_pos _)) hz).ne', div_div_div_cancel_right₀ hz.ne', share_shift]

/-- The same quotient with the two chosen experts the other way round. -/
theorem ratio_softmax_swap (a b m z : ℝ) (hz : 0 < z) :
    Ideal.div (Ideal.div (Ideal.exp ((a : EReal) - (m : EReal))) (z : EReal))
      (Ideal.div (Ideal.exp ((b : EReal) - (m : EReal))) (z : EReal) + Ideal.div (Ideal.exp ((a : EReal) - (m : EReal))) (z : EReal)) = ((share a b : ℝ) : EReal) := by
  rw [add_comm, ratio_softmax a b m z hz]

/-- The greater of two reals is a real. -/
theorem max_coe (a b : ℝ) : max (a : EReal) (b : EReal) = ((max a b : ℝ) : EReal) :=
  (EReal.coe_strictMono.monotone.map_max).symm

/-- A finite sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, at least one, is a real. -/
theorem fold_max_coe {ι : Type} (s : Finset ι) (hs : s.Nonempty) (f : ι → ℝ) : ∃ m : ℝ, s.fold max (⊥ : EReal) (fun i => (f i : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm, max_coe]⟩

/-- The product of two finite numbers is a real; so is a sum of such products. -/
theorem dot_real {ι : Type} [Fintype ι] (x y : ι → EReal) (hx : ∀ i, x i ≠ ⊤ ∧ x i ≠ ⊥) (hy : ∀ i, y i ≠ ⊤ ∧ y i ≠ ⊥) :
    ∃ r : ℝ, ∑ i, x i * y i = (r : EReal) := by
  refine ⟨∑ i, (x i).toReal * (y i).toReal, ?_⟩
  rw [← sum_coe]
  refine Finset.sum_congr rfl fun i _ => ?_
  rw [EReal.coe_mul, EReal.coe_toReal (hx i).1 (hx i).2, EReal.coe_toReal (hy i).1 (hy i).2]

/-- A nonnegative real factor moves into a sum. -/
theorem mul_sum_coe {ι : Type} (s : Finset ι) (g : ℝ) (hg : 0 ≤ g) (f : ι → EReal) : ∑ i ∈ s, (g : EReal) * f i = (g : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hg) (EReal.coe_ne_top g)]

/-- A nonnegative gate on the first factors of a sum of products is a factor of the sum. -/
theorem gated_dot {ι : Type} [Fintype ι] (g : ℝ) (hg : 0 ≤ g) (x y : ι → EReal) :
    ∑ i, (x i * (g : EReal)) * y i = (g : EReal) * ∑ i, x i * y i := by
  rw [← mul_sum_coe _ g hg]
  exact Finset.sum_congr rfl fun i _ => by rw [mul_comm (x i), mul_assoc]

/-- The gate of expert e when p and q are the two chosen experts and a and b their weights. -/
def gateOf {n : ℕ} (p q : Fin n) (a b : ℝ) (e : Fin n) : ℝ := (if e = p then a else 0) + (if e = q then b else 0)

/-- A gate is not negative. -/
theorem gateOf_nonneg {n : ℕ} (p q : Fin n) (a b : ℝ) (ha : 0 ≤ a) (hb : 0 ≤ b) (e : Fin n) : 0 ≤ gateOf p q a b e := by
  unfold gateOf
  refine add_nonneg ?_ ?_ <;> split_ifs <;> first | assumption | exact le_rfl

/-- Summed over all experts, only the two chosen ones are left; they may be the same one. -/
theorem gated_sum {n : ℕ} {ι : Type} [Fintype ι] (p q : Fin n) (a b : ℝ) (ha : 0 ≤ a) (hb : 0 ≤ b) (x : ι → EReal) (W : Fin n → ι → EReal) :
    ∑ e, ∑ i, (x i * ((gateOf p q a b e : ℝ) : EReal)) * W e i = (a : EReal) * (∑ i, x i * W p i) + (b : EReal) * ∑ i, x i * W q i := by
  have h : ∀ e : Fin n, ∑ i, (x i * ((gateOf p q a b e : ℝ) : EReal)) * W e i
      = (if e = p then (a : EReal) * (∑ i, x i * W p i) else 0) + (if e = q then (b : EReal) * ∑ i, x i * W q i else 0) := by
    intro e
    rw [gated_dot _ (gateOf_nonneg p q a b ha hb e)]
    unfold gateOf
    rw [EReal.coe_add, EReal.right_distrib_of_nonneg
      (EReal.coe_nonneg.2 (by split_ifs <;> first | assumption | exact le_rfl))
      (EReal.coe_nonneg.2 (by split_ifs <;> first | assumption | exact le_rfl))]
    congr 1
    · by_cases h : e = p
      · subst h; simp
      · simp [h]
    · by_cases h : e = q
      · subst h; simp
      · simp [h]
  rw [Finset.sum_congr rfl fun e _ => h e, Finset.sum_add_distrib]
  simp

end Cert.Moe
-- ==== Proof.Val.Gate.lean ====
/-
The gates of a token: with finite scores and both experts in range, the two-score softmax puts one nonnegative real on each chosen expert.
-/
module

public import proofs.«01_k».proof.Proof.Val.Alg
public import proofs.«01_k».proof.Proof.KI.Vals
public import Idealize.ShloMosaic.Lib.Pointwise
public import Idealize.ShloMosaic.Lib.Pointwise.IndexBridge

@[expose] public section

set_option maxRecDepth 16384

noncomputable section

namespace Cert.KernelIdeal.Moe

open Idealize.ShloMosaic Idealize.ShloMosaic.TcCoe
open Cert.KernelIdeal Cert.KernelIdeal.Gen

/-- The comparison of a position with an index in range. -/
theorem select_eq (e p : Fin 32) (a b : EReal) :
    Scalar.select (IntOp.cmpi CmpIPredicate.eq (BitVec.ofNat 32 e.val) (BitVec.ofNat 32 p.val)) a b = if e = p then a else b := by
  have h : IntOp.cmpi CmpIPredicate.eq (BitVec.ofNat 32 e.val) (BitVec.ofNat 32 p.val) = BitVec.ofBool (decide (e = p)) := by
    revert p; revert e; decide +kernel
  rw [h]
  by_cases he : e = p
  · rw [decide_eq_true he, if_pos he]; rfl
  · rw [decide_eq_false he, if_neg he]; rfl

/-- The gates at a place, for a token with scores s and experts p and q. -/
theorem gate_apply (I : Inp Ideal) (d : Dev nD) (i : Fin 2048) (e p q : Fin 32) (s : Fin 32 → ℝ)
    (hp : I.ix d (ix2 i 0) = BitVec.ofNat 32 p.val) (hq : I.ix d (ix2 i 1) = BitVec.ofNat 32 q.val)
    (hs : ∀ e, ∑ k, I.x d (ix2 i k) * I.rw d (ix2 k e) = ((s e : ℝ) : EReal)) :
    I.gate d (ix2 i e) = ((Cert.Moe.gateOf p q (Cert.Moe.share (s p) (s q)) (Cert.Moe.share (s q) (s p)) e : ℝ) : EReal) := by
  pointwise [Inp.gate, k0_pay5, k0_pay1, k0_pay2, k0_pay3, k0_pay4, Inp.col, ← ix2_eq_valueIdx]
  simp only [hp, hq, hs, select_eq, Finset.sum_ite_eq', Finset.mem_univ, if_true, Cert.Moe.max_coe, Cert.Moe.two_softmax, Cert.Moe.two_softmax_swap]
  unfold Cert.Moe.gateOf
  rw [EReal.coe_add]
  congr 1 <;> split_ifs <;> rfl

end Cert.KernelIdeal.Moe
-- ==== Proof.Val.Tile.lean ====
/-
What one tile of the kernel holds at a place: the sum over the eight experts of a device of the gated tokens times the expert's matrix.
-/
module

public import proofs.«01_k».proof.Proof.KI.Vals
public import Idealize.ShloMosaic.Lib.Pointwise
public import Idealize.ShloMosaic.Lib.Pointwise.IndexBridge

@[expose] public section

set_option maxRecDepth 16384

noncomputable section

namespace Cert.KernelIdeal.Moe

open Idealize.ShloMosaic Idealize.ShloMosaic.TcCoe
open Cert.KernelIdeal Cert.KernelIdeal.Gen

/-- The comparison behind the selection: row e against column j of device d. -/
theorem word_eq (e : ℕ) (he : e < 32) (j : ℕ) (hj : j < 8) (d : Dev nD) :
    IntOp.cmpi CmpIPredicate.eq (BitVec.ofNat 32 e) (IntOp.addi (Scalar.muli (Scalar.remsi (Scalar.divsi d.word 1#32) 4#32) 8#32) (BitVec.ofNat 32 j))
      = BitVec.ofBool (decide (e = 8 * d.val + j)) := by
  revert d; revert j; revert e
  decide +kernel

/-- Device d selects expert 8 d + j in its column j. -/
theorem sel_apply (d : Dev nD) (e : Fin 32) (j : Fin 8) : (Inp.sel d : FVec Ideal S32x8 .bf16) (ix2 e j) = if e.val = 8 * d.val + j.val then 1 else 0 := by
  pointwise [Inp.sel, k0_pay8]
  rw [word_eq e.val e.isLt j.val j.isLt d]
  by_cases h : e.val = 8 * d.val + j.val
  · rw [if_pos h, decide_eq_true h]
    show (((1#32 : BitVec 32).toInt : ℝ) : EReal) = 1
    simp
  · rw [if_neg h, decide_eq_false h]
    show (((0#32 : BitVec 32).toInt : ℝ) : EReal) = 0
    simp

/-- Expert j of device d among the 32. -/
def expertOf (d : Dev nD) (j : Fin 8) : Fin 32 := ⟨8 * d.val + j.val, by have := d.isLt; have := j.isLt; simp only [nD] at *; omega⟩

/-- Row k of expert j in the eight experts' matrices one above the other. -/
def rowOf (j : Fin 8) (k : Fin 512) : Fin 4096 := ⟨512 * j.val + k.val, by have := k.isLt; have := j.isLt; omega⟩

/-- A sum against a column of the selection is one entry. -/
theorem sum_sel (d : Dev nD) (j : Fin 8) (f : Fin 32 → EReal) : ∑ e, f e * (Inp.sel d : FVec Ideal S32x8 .bf16) (ix2 e j) = f (expertOf d j) := by
  rw [Finset.sum_eq_single (expertOf d j)]
  · rw [sel_apply, if_pos (show (expertOf d j).val = 8 * d.val + j.val from rfl), mul_one]
  · intro e _ h
    rw [sel_apply, if_neg (fun h' : e.val = 8 * d.val + j.val => h (Fin.ext h')), mul_zero]
  · simp

/-- What device d's experts add at column h, for a token x with gates g. -/
def part (d : Dev nD) (ew : Vec Ideal S4096x1024 .bf16) (x : Fin 512 → EReal) (g : Fin 32 → EReal) (h : Fin 1024) : EReal :=
  ∑ j : Fin 8, ∑ k : Fin 512, (x k * g (expertOf d j)) * ew (ix2 (rowOf j k) h)

/-- A tile at a place, for any selection. -/
theorem tile_apply (sl : FVec Ideal S32x8 .bf16) (e : Fin 8 → FVec Ideal S512x1024 .bf16) (xq : FVec Ideal S512x512 .bf16) (wq : FVec Ideal S512x32 .bf16)
    (r : Fin 512) (h : Fin 1024) :
    tile sl e xq wq (ix2 r h) = ∑ j : Fin 8, ∑ k : Fin 512, (xq (ix2 r k) * ∑ e' : Fin 32, wq (ix2 r e') * sl (ix2 e' j)) * e j (ix2 k h) := by
  pointwise [tile, step]
  simp only [Fin.sum_univ_eight]

/-- A tile at a place, for the selection of device d. -/
theorem tile_part (d : Dev nD) (ew : Vec Ideal S4096x1024 .bf16) (xq : FVec Ideal S512x512 .bf16) (wq : FVec Ideal S512x32 .bf16) (r : Fin 512) (h : Fin 1024) :
    tile (Inp.sel d) (eTile ew) xq wq (ix2 r h) = part d ew (fun k => xq (ix2 r k)) (fun e => wq (ix2 r e)) h := by
  rw [tile_apply]
  unfold part
  refine Finset.sum_congr rfl fun j _ => Finset.sum_congr rfl fun k _ => ?_
  rw [sum_sel d j fun e => wq (ix2 r e)]
  rfl

/-- What is sent at a place. -/
theorem contrib_part (d : Dev nD) (ew : Vec Ideal S4096x1024 .bf16) (X : Vec Ideal S2x1024x512 .bf16) (W : Vec Ideal S2x1024x32 .bf16) (a : Fin 2) (r h : Fin 1024) :
    contrib (Inp.sel d) ew X W (ix3 a r h) = part d ew (fun k => X (ix3 a r k)) (fun e => W (ix3 a r e)) h := by
  have hr : (⟨512 * (r.val / 512) + r.val % 512, by have := r.isLt; omega⟩ : Fin 1024) = r := Fin.ext (Nat.div_add_mod _ _)
  pointwise [contrib, contribTile]
  rw [tile_part]
  pointwise [cutX, cutW, ← ix3_eq_valueIdx]
  simp only [hr]

/-- What a device adds for its own tokens at a place. -/
theorem selfOut_part (d : Dev nD) (ew : Vec Ideal S4096x1024 .bf16) (x : Vec Ideal S2048x512 .bf16) (W : Vec Ideal S2x1024x32 .bf16) (i : Fin 2048) (h : Fin 1024) :
    selfOut (Inp.sel d) ew x W (ix2 i h) = part d ew (fun k => x (ix2 i k))
      (fun e => W (ix3 ⟨i.val / 1024, by have := i.isLt; omega⟩ ⟨i.val % 1024, Nat.mod_lt _ (by decide)⟩ e)) h := by
  have hi : (⟨1024 * (i.val / 1024) + 512 * (i.val % 1024 / 512) + i.val % 512, by have := i.isLt; omega⟩ : Fin 2048) = i := Fin.ext (by simp only []; omega)
  have hw : (⟨512 * (i.val % 1024 / 512) + i.val % 512, by have := i.isLt; omega⟩ : Fin 1024) = ⟨i.val % 1024, Nat.mod_lt _ (by decide)⟩ := Fin.ext (by simp only []; omega)
  show tile (Inp.sel d) (eTile ew)
    (shapeCast S512x512 (cutOwn x ⟨i.val / 1024, by have := i.isLt; omega⟩ ⟨i.val % 1024 / 512, by omega⟩) shapeCasts_S512x512_S512x512)
    (shapeCast S512x32 (cutW W ⟨i.val / 1024, by have := i.isLt; omega⟩ ⟨i.val % 1024 / 512, by omega⟩) shapeCasts_S1x512x32_S512x32)
    (ix2 ⟨i.val % 512, Nat.mod_lt _ (by decide)⟩ h) = _
  rw [tile_part]
  pointwise [cutOwn, cutW, ← ix2_eq_valueIdx, ← ix3_eq_valueIdx]
  simp only [hi, hw]

end Cert.KernelIdeal.Moe
-- ==== Proof.Val.Out.lean ====
/-
The whole result of the kernel on a device: every token of the device gathers what the experts of all four devices add for it.
-/
module

public import proofs.«01_k».proof.Proof.Val.Tile
public import proofs.«01_k».proof.Proof.KI.Vals
public import Idealize.ShloMosaic.Lib.Pointwise
public import Idealize.ShloMosaic.Lib.Pointwise.IndexBridge

@[expose] public section

set_option maxRecDepth 16384

noncomputable section

namespace Cert.KernelIdeal.Moe

open Idealize.ShloMosaic Idealize.ShloMosaic.TcCoe
open Cert.KernelIdeal Cert.KernelIdeal.Gen

/-- A sum over the four devices, seen from one of them. -/
theorem sum_ring (c : Dev nD) (f : Dev nD → EReal) : ∑ d : Dev nD, f d = f c + f (lf c) + f (rt c) + f (opp c) := by
  have h4 : ∑ d : Dev nD, f d = f (0 : Fin 4) + f (1 : Fin 4) + f (2 : Fin 4) + f (3 : Fin 4) := Fin.sum_univ_four f
  rw [h4]
  have hc : c = (0 : Fin 4) ∨ c = (1 : Fin 4) ∨ c = (2 : Fin 4) ∨ c = (3 : Fin 4) := by revert c; decide
  rcases hc with rfl | rfl | rfl | rfl
  · show _ = f (0 : Fin 4) + f (3 : Fin 4) + f (1 : Fin 4) + f (2 : Fin 4); abel
  · show _ = f (1 : Fin 4) + f (0 : Fin 4) + f (2 : Fin 4) + f (3 : Fin 4); abel
  · show _ = f (2 : Fin 4) + f (1 : Fin 4) + f (3 : Fin 4) + f (0 : Fin 4); abel
  · show _ = f (3 : Fin 4) + f (2 : Fin 4) + f (0 : Fin 4) + f (1 : Fin 4); abel

/-- What device d's experts add for token i of device c at column h. -/
def Inp.add (I : Inp Ideal) (d c : Dev nD) (i : Fin 2048) (h : Fin 1024) : EReal :=
  part d (I.ew d) (fun k => I.x c (ix2 i k)) (fun e => I.gate c (ix2 i e)) h

/-- Opposite of the opposite device is the device. -/
theorem opp_opp (c : Dev nD) : opp (opp c) = c := by revert c; decide

variable (I : Inp Ideal)

/-- A contribution for the tokens of device c, at row r of half a. -/
theorem contrib_add (d c : Dev nD) (a : Fin 2) (r h : Fin 1024) :
    contrib (Inp.sel d) (I.ew d) (I.xb c) (I.w c) (ix3 a r h) = I.add d c ⟨1024 * a.val + r.val, by have := a.isLt; have := r.isLt; omega⟩ h := by
  rw [contrib_part]
  rfl

/-- A device's products for its own tokens are its part of its own sum. -/
theorem own_add (c : Dev nD) (i : Fin 2048) (h : Fin 1024) : I.own c (ix2 i h) = I.add c c i h := by
  have hi : (⟨1024 * (i.val / 1024) + i.val % 1024, by have := i.isLt; omega⟩ : Fin 2048) = i := Fin.ext (Nat.div_add_mod _ _)
  show selfOut (Inp.sel c) (I.ew c) (I.x c) (I.w c) (ix2 i h) = _
  rw [selfOut_part]
  unfold Inp.add
  congr 1
  funext e
  show I.gate c (ix2 (⟨1024 * (i.val / 1024) + i.val % 1024, _⟩ : Fin 2048) e) = _
  rw [hi]

/-- What goes to the right: in its first half with what came from the left. -/
theorem crF_add (d : Dev nD) (a : Fin 2) (r h : Fin 1024) :
    I.crF d (ix3 a r h) = I.add d (rt d) ⟨1024 * a.val + r.val, by have := a.isLt; have := r.isLt; omega⟩ h
      + if a.val = 0 then I.add (lf d) (rt d) ⟨1024 * a.val + r.val, by have := a.isLt; have := r.isLt; omega⟩ h else 0 := by
  by_cases ha : a.val = 0
  · obtain rfl : a = 0 := Fin.ext ha
    rw [if_pos ha]
    show contrib (Inp.sel d) (I.ew d) (I.xb (rt d)) (I.w (rt d)) (ix3 0 r h)
      + contrib (Inp.sel (lf d)) (I.ew (lf d)) (I.xb (opp (lf d))) (I.w (opp (lf d))) (ix3 0 r h) = _
    rw [contrib_add, contrib_add, opp_lf]
  · rw [if_neg ha, add_zero, ← contrib_add]
    show (if a.val = 0 then _ else I.cr d (ix3 a r h)) = _
    rw [if_neg ha]
    rfl

/-- What goes to the left: in its second half with what came from the right. -/
theorem clF_add (d : Dev nD) (a : Fin 2) (r h : Fin 1024) :
    I.clF d (ix3 a r h) = I.add d (lf d) ⟨1024 * a.val + r.val, by have := a.isLt; have := r.isLt; omega⟩ h
      + if a.val = 1 then I.add (rt d) (lf d) ⟨1024 * a.val + r.val, by have := a.isLt; have := r.isLt; omega⟩ h else 0 := by
  by_cases ha : a.val = 1
  · obtain rfl : a = 1 := Fin.ext ha
    rw [if_pos ha]
    show contrib (Inp.sel d) (I.ew d) (I.xb (lf d)) (I.w (lf d)) (ix3 1 r h)
      + contrib (Inp.sel (rt d)) (I.ew (rt d)) (I.xb (opp (rt d))) (I.w (opp (rt d))) (ix3 1 r h) = _
    rw [contrib_add, contrib_add, opp_rt]
  · rw [if_neg ha, add_zero, ← contrib_add]
    show (if a.val = 1 then _ else I.cl d (ix3 a r h)) = _
    rw [if_neg ha]
    rfl

/-- The result of device c at token i and column h is the sum over all four devices. -/
theorem out_add (c : Dev nD) (i : Fin 2048) (h : Fin 1024) : I.out c (ix2 i h) = ∑ d : Dev nD, I.add d c i h := by
  have hi : (⟨1024 * (i.val / 1024) + i.val % 1024, by have := i.isLt; omega⟩ : Fin 2048) = i := Fin.ext (Nat.div_add_mod _ _)
  have h2 : i.val / 1024 < 2 := by have := i.isLt; omega
  rw [sum_ring c]
  show I.own c (ix2 i h) + I.crF (lf c) (ix3 (⟨i.val / 1024, h2⟩ : Fin 2) (⟨i.val % 1024, Nat.mod_lt _ (by decide)⟩ : Fin 1024) h)
    + I.clF (rt c) (ix3 (⟨i.val / 1024, h2⟩ : Fin 2) (⟨i.val % 1024, Nat.mod_lt _ (by decide)⟩ : Fin 1024) h) = _
  rw [own_add, crF_add, clF_add]
  simp only [rt_lf, lf_rt, lf_lf, rt_rt, hi]
  have h01 : i.val / 1024 = 0 ∨ i.val / 1024 = 1 := by omega
  rcases h01 with h0 | h1
  · simp only [h0]; simp; abel
  · simp only [h1]; simp; abel

end Cert.KernelIdeal.Moe
-- ==== Proof.Val.Ref.lean ====
/-
The reference in stages, and each stage at a place.
-/
module

public import proofs.«01_k».proof.Proof.Gen.ReferenceIdeal.Run
public import proofs.«01_k».proof.Proof.Val.Alg
public import Idealize.ShloMosaic.Lib.Pointwise
public import Idealize.ShloMosaic.Lib.Pointwise.IndexBridge
public import Idealize.ShloMosaic.Lib.StableHlo.Predicate

@[expose] public section

set_option maxRecDepth 16384

noncomputable section

namespace Cert.ReferenceIdeal.Moe

open Idealize.ShloMosaic Idealize.ShloMosaic.TcCoe
open Cert.ReferenceIdeal Cert.ReferenceIdeal.Gen

/-- The scores of the tokens. -/
def sc (x : Vec Ideal S8192x512 .bf16) (r : Vec Ideal S512x32 .bf16) : FVec Ideal S8192x32 .f32 :=
  Host.dotGeneral dot_S8192x512_S512x32_S8192x32_1_0_0_1_n_n none (extf .f32 (x : FVec Ideal S8192x512 .bf16) bitsLt_bf16_f32) (extf .f32 (r : FVec Ideal S512x32 .bf16) bitsLt_bf16_f32)

/-- The exponentials of the scores less their greatest. -/
def ex (x : Vec Ideal S8192x512 .bf16) (r : Vec Ideal S512x32 .bf16) : FVec Ideal S8192x32 .f32 :=
  Host.exp (subf (sc x r) (broadcastInDim S8192x32 ![0, 1] bcast_S8192x1_S8192x32_0_1 (broadcastInDim S8192x1 ![0] bcast_S8192_S8192x1_0
    (Host.reduce FloatOps.maximumf (sc x r) (constant S_ .f32 0xFF800000#32) reducesTo_S8192x32_S8192_d1 h_S_))))

/-- The softmax over the 32 experts. -/
def pr (x : Vec Ideal S8192x512 .bf16) (r : Vec Ideal S512x32 .bf16) : FVec Ideal S8192x32 .f32 :=
  Host.divf (ex x r) (broadcastInDim S8192x32 ![0, 1] bcast_S8192x1_S8192x32_0_1 (broadcastInDim S8192x1 ![0] bcast_S8192_S8192x1_0
    (Host.reduceAdd (ex x r) (constant S_ .f32 0x00000000#32) reducesTo_S8192x32_S8192_d1 h_S_)))

/-- The positions that the softmax is read at. -/
def ids (ix : Vec Ideal S8192x2 .i32) : IVec S8192x2x1 32 :=
  shapeCast _ (select (cmpi .slt ix (broadcastInDim S8192x2 ![] bcast_S_S8192x2 (constantI S_ 32 0#32)))
    (addi ix (broadcastInDim S8192x2 ![] bcast_S_S8192x2 (constantI S_ 32 32#32))) ix) shapeCasts_S8192x2_S8192x2x1

/-- Whether a position is in range. -/
def ok (ix : Vec Ideal S8192x2 .i32) : IVec S8192x2 1 :=
  Host.reduce IntOp.andi (andi (cmpi .sge (ids ix) (broadcastInDim S8192x2x1 ![] bcast_S_S8192x2x1 (constantI S_ 32 0#32)))
    (cmpi .sle (ids ix) (broadcastInDim S8192x2x1 ![0, 1, 2] bcast_S1x1x1_S8192x2x1_0_1_2 (broadcastInDim S1x1x1 ![2] bcast_S1_S1x1x1_2 (constantI S1 32 31#32)))))
    (constantI S_ 1 1#1) reducesTo_S8192x2x1_S8192x2_d2 h_S_

/-- The softmax at the two chosen experts. -/
def tk (x : Vec Ideal S8192x512 .bf16) (r : Vec Ideal S512x32 .bf16) (ix : Vec Ideal S8192x2 .i32) : FVec Ideal S8192x2 .f32 :=
  select (ok ix) (Host.gather gather_S8192x32_S8192x2x1_S8192x2_n_1_0_0_1_2_11 (pr x r) (ids ix))
    (broadcastInDim S8192x2 ![] bcast_S_S8192x2 (constant S_ .f32 0x7FC00000#32))

/-- A column of chosen experts, as positions of matrices. -/
def pos (v : Vec Ideal S8192x1 .i32) : IVec S8192x1 32 :=
  broadcastInDim S8192x1 ![0] bcast_S8192_S8192x1_0 (select (cmpi .slt (shapeCast _ v shapeCasts_S8192x1_S8192) (broadcastInDim S8192 ![] bcast_S_S8192 (constantI S_ 32 0#32)))
    (addi (shapeCast _ v shapeCasts_S8192x1_S8192) (broadcastInDim S8192 ![] bcast_S_S8192 (constantI S_ 32 32#32))) (shapeCast _ v shapeCasts_S8192x1_S8192))

/-- Each token times the matrix of its expert. -/
def mix (x : Vec Ideal S8192x512 .bf16) (W : Vec Ideal S32x512x1024 .bf16) (v : Vec Ideal S8192x1 .i32) : FVec Ideal S8192x1024 .f32 :=
  Host.dotGeneral dot_S8192x512_S8192x512x1024_S8192x1024_1_1_n_2_0_0 none (extf .f32 (x : FVec Ideal S8192x512 .bf16) bitsLt_bf16_f32)
    (Host.gather gather_S32x512x1024_S8192x1_S8192x512x1024_12_0_n_n_0_1_15121024 (extf .f32 (W : FVec Ideal S32x512x1024 .bf16) bitsLt_bf16_f32) (pos v))

/-- The reference's result. -/
def res (x : Vec Ideal S8192x512 .bf16) (r : Vec Ideal S512x32 .bf16) (ix : Vec Ideal S8192x2 .i32) (W : Vec Ideal S32x512x1024 .bf16) : FVec Ideal S8192x1024 .f32 :=
  let g0 : FVec Ideal S8192x1 .f32 := extractStridedSlice S8192x1 ![0, 0] (tk x r ix) slices_S8192x2_S8192x1_0_0
  let g1 : FVec Ideal S8192x1 .f32 := extractStridedSlice S8192x1 ![0, 1] (tk x r ix) slices_S8192x2_S8192x1_0_1
  addf (mulf (broadcastInDim S8192x1024 ![0, 1] bcast_S8192x1_S8192x1024_0_1 (Host.divf g0 (addf g0 g1)))
      (mix x W (extractStridedSlice S8192x1 ![0, 0] ix slices_S8192x2_S8192x1_0_0)))
    (mulf (broadcastInDim S8192x1024 ![0, 1] bcast_S8192x1_S8192x1024_0_1 (Host.divf g1 (addf g0 g1)))
      (mix x W (extractStridedSlice S8192x1 ![0, 1] ix slices_S8192x2_S8192x1_0_1)))

/-- What the reference's run leaves is that result. -/
theorem res_out0_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2)) (m ((c.tc : Thread nD τ).loc main_arg3)) := rfl

/-- A score at a place. -/
theorem sc_apply (x : Vec Ideal S8192x512 .bf16) (r : Vec Ideal S512x32 .bf16) (i : Fin 8192) (e : Fin 32) :
    sc x r (ix2 i e) = ∑ k : Fin 512, x (ix2 i k) * r (ix2 k e) := by
  pointwise [sc]

/-- The greatest starts from minus infinity. -/
theorem negInf : Ideal.ofBits .f32 0xFF800000#32 = (⊥ : EReal) := by
  simp [Ideal.ofBits, Ideal.ieee]

/-- The softmax of a row of finite scores: one shift m and one positive divisor z for the whole row. -/
theorem pr_apply (x : Vec Ideal S8192x512 .bf16) (r : Vec Ideal S512x32 .bf16) (i : Fin 8192) (s : Fin 32 → ℝ)
    (hs : ∀ e, ∑ k : Fin 512, x (ix2 i k) * r (ix2 k e) = ((s e : ℝ) : EReal)) :
    ∃ m z : ℝ, 0 < z ∧ ∀ e, pr x r (ix2 i e) = Ideal.div (Ideal.exp (((s e : ℝ) : EReal) - ((m : ℝ) : EReal))) ((z : ℝ) : EReal) := by
  obtain ⟨m, hm⟩ := Cert.Moe.fold_max_coe Finset.univ ⟨(0 : Fin 32), Finset.mem_univ _⟩ s
  have hex : ∀ e : Fin 32, ex x r (ix2 i e) = ((Real.exp (s e - m) : ℝ) : EReal) := by
    intro e
    pointwise [ex]
    simp only [sc_apply, hs, negInf, hm]
    rw [← EReal.coe_sub, Cert.Moe.exp_coe]
  refine ⟨m, ∑ e, Real.exp (s e - m), Finset.sum_pos (fun e _ => Real.exp_pos _) ⟨(0 : Fin 32), Finset.mem_univ _⟩, fun e => ?_⟩
  pointwise [pr]
  simp only [hex, Cert.Moe.sum_coe]
  rw [← EReal.coe_sub, Cert.Moe.exp_coe]

/-- A position in range is not moved. -/
theorem wrap_eq (p : Fin 32) : Scalar.select (IntOp.cmpi CmpIPredicate.slt (BitVec.ofNat 32 p.val) 0#32) (IntOp.addi (BitVec.ofNat 32 p.val) 32#32) (BitVec.ofNat 32 p.val)
    = BitVec.ofNat 32 p.val := by
  revert p; decide +kernel

/-- An expert's index is in range. -/
theorem inRange_eq (p : Fin 32) : IntOp.andi (IntOp.cmpi CmpIPredicate.sge (BitVec.ofNat 32 p.val) 0#32) (IntOp.cmpi CmpIPredicate.sle (BitVec.ofNat 32 p.val) 31#32) = 1#1 := by
  revert p; decide +kernel

/-- The wrapped index of a chosen expert is its index. -/
theorem ids_apply (ix : Vec Ideal S8192x2 .i32) (i : Fin 8192) (a : Fin 2) (p : Fin 32) (hp : ix (ix2 i a) = BitVec.ofNat 32 p.val) :
    ids ix (ix3 i a 0) = BitVec.ofNat 32 p.val := by
  pointwise [ids]
  rw [hp, wrap_eq]

/-- The index of a chosen expert is in range. -/
theorem ok_apply (ix : Vec Ideal S8192x2 .i32) (i : Fin 8192) (a : Fin 2) (p : Fin 32) (hp : ix (ix2 i a) = BitVec.ofNat 32 p.val) : ok ix (ix2 i a) = 1#1 := by
  pointwise [ok]
  rw [Finset.univ_unique, Finset.fold_singleton]
  show IntOp.andi (IntOp.andi (IntOp.cmpi CmpIPredicate.sge (ids ix (ix3 i a 0)) 0#32) (IntOp.cmpi CmpIPredicate.sle (ids ix (ix3 i a 0)) 31#32)) 1#1 = 1#1
  rw [ids_apply ix i a p hp, inRange_eq]
  rfl

/-- The wrapped index of one column's chosen expert is its index. -/
theorem pos_apply (v : Vec Ideal S8192x1 .i32) (i : Fin 8192) (p : Fin 32) (hp : v (ix2 i 0) = BitVec.ofNat 32 p.val) : pos v (ix2 i 0) = BitVec.ofNat 32 p.val := by
  pointwise [pos]
  rw [hp, wrap_eq]

/-- The row-wise read of the softmax. -/
theorem gatherProb (x : FVec Ideal S8192x32 .f32) (id : IVec S8192x2x1 32) (i : Fin 8192) (a : Fin 2) (e : Fin 32) (he : id (ix3 i a 0) = BitVec.ofNat 32 e.val) :
    Host.gather gather_S8192x32_S8192x2x1_S8192x2_n_1_0_0_1_2_11 x id (ix2 i a) = x (ix2 i e) := by
  have hsi : gather_S8192x32_S8192x2x1_S8192x2_n_1_0_0_1_2_11.siIdx (ix2 i a) ⟨0, by decide⟩ = ix3 i a 0 := by
    funext b
    match b with
    | ⟨0, _⟩ => rfl
    | ⟨1, _⟩ => rfl
    | ⟨2, _⟩ => rfl
  unfold Host.gather
  refine congrArg x (funext fun b => Fin.ext ?_)
  match b with
  | ⟨0, _⟩ =>
    show 0 + i.val + 0 = i.val
    omega
  | ⟨1, _⟩ =>
    show min ((id (gather_S8192x32_S8192x2x1_S8192x2_n_1_0_0_1_2_11.siIdx (ix2 i a) ⟨0, by decide⟩)).toInt.toNat) (32 - 1) + 0 + 0 = e.val
    have := e.isLt
    rw [hsi, he, StableHlo.Predicate.toInt_ofNat_small _ (by omega)]
    omega

/-- The read of an expert's matrix for each token. -/
theorem gatherMat (x : FVec Ideal S32x512x1024 .f32) (id : IVec S8192x1 32) (i : Fin 8192) (k : Fin 512) (h : Fin 1024) (e : Fin 32)
    (he : id (ix2 i 0) = BitVec.ofNat 32 e.val) :
    Host.gather gather_S32x512x1024_S8192x1_S8192x512x1024_12_0_n_n_0_1_15121024 x id (ix3 i k h) = x (ix3 e k h) := by
  have hsi : gather_S32x512x1024_S8192x1_S8192x512x1024_12_0_n_n_0_1_15121024.siIdx (ix3 i k h) ⟨0, by decide⟩ = ix2 i 0 := by
    funext b
    match b with
    | ⟨0, _⟩ => rfl
    | ⟨1, _⟩ => rfl
  unfold Host.gather
  refine congrArg x (funext fun b => Fin.ext ?_)
  match b with
  | ⟨0, _⟩ =>
    show min ((id (gather_S32x512x1024_S8192x1_S8192x512x1024_12_0_n_n_0_1_15121024.siIdx (ix3 i k h) ⟨0, by decide⟩)).toInt.toNat) (32 - 1) + 0 + 0 = e.val
    have := e.isLt
    rw [hsi, he, StableHlo.Predicate.toInt_ofNat_small _ (by omega)]
    omega
  | ⟨1, _⟩ => show 0 + 0 + k.val = k.val; omega
  | ⟨2, _⟩ => show 0 + 0 + h.val = h.val; omega

/-- The probability taken for a chosen expert is that expert's. -/
theorem tk_apply (x : Vec Ideal S8192x512 .bf16) (r : Vec Ideal S512x32 .bf16) (ix : Vec Ideal S8192x2 .i32) (i : Fin 8192) (a : Fin 2) (p : Fin 32)
    (hp : ix (ix2 i a) = BitVec.ofNat 32 p.val) : tk x r ix (ix2 i a) = pr x r (ix2 i p) := by
  pointwise [tk]
  rw [ok_apply ix i a p hp, gatherProb _ _ i a p (ids_apply ix i a p hp)]
  rfl

/-- A token's product with its chosen expert's matrix. -/
theorem mix_apply (x : Vec Ideal S8192x512 .bf16) (W : Vec Ideal S32x512x1024 .bf16) (v : Vec Ideal S8192x1 .i32) (i : Fin 8192) (h : Fin 1024) (p : Fin 32)
    (hp : v (ix2 i 0) = BitVec.ofNat 32 p.val) : mix x W v (ix2 i h) = ∑ k : Fin 512, x (ix2 i k) * W (ix3 p k h) := by
  pointwise [mix]
  refine Finset.sum_congr rfl fun k _ => ?_
  rw [gatherMat _ _ i k h p (pos_apply v i p hp)]
  rfl

/-- The reference at a place: the two chosen experts' results, each times its share. -/
theorem res_apply (x : Vec Ideal S8192x512 .bf16) (r : Vec Ideal S512x32 .bf16) (ix : Vec Ideal S8192x2 .i32) (W : Vec Ideal S32x512x1024 .bf16)
    (i : Fin 8192) (h : Fin 1024) (p q : Fin 32) (s : Fin 32 → ℝ)
    (hp : ix (ix2 i 0) = BitVec.ofNat 32 p.val) (hq : ix (ix2 i 1) = BitVec.ofNat 32 q.val)
    (hs : ∀ e, ∑ k : Fin 512, x (ix2 i k) * r (ix2 k e) = ((s e : ℝ) : EReal)) :
    res x r ix W (ix2 i h) = ((Cert.Moe.share (s p) (s q) : ℝ) : EReal) * (∑ k : Fin 512, x (ix2 i k) * W (ix3 p k h))
      + ((Cert.Moe.share (s q) (s p) : ℝ) : EReal) * ∑ k : Fin 512, x (ix2 i k) * W (ix3 q k h) := by
  obtain ⟨m, z, hz, hpr⟩ := pr_apply x r i s hs
  have h0 : extractStridedSlice S8192x1 ![0, 0] ix slices_S8192x2_S8192x1_0_0 (ix2 i 0) = BitVec.ofNat 32 p.val := by pointwise; exact hp
  have h1 : extractStridedSlice S8192x1 ![0, 1] ix slices_S8192x2_S8192x1_0_1 (ix2 i 0) = BitVec.ofNat 32 q.val := by pointwise; exact hq
  pointwise [res]
  rw [mix_apply x W _ i h p h0, mix_apply x W _ i h q h1, tk_apply x r ix i 0 p hp, tk_apply x r ix i 1 q hq, hpr, hpr,
    Cert.Moe.ratio_softmax _ _ _ _ hz, Cert.Moe.ratio_softmax_swap _ _ _ _ hz]

end Cert.ReferenceIdeal.Moe
-- ==== Proof.Val.Eq.lean ====
/-
The equation: each device's result of the kernel is its block of the reference's result.
-/
module

public import proofs.«01_k».proof.Proof.Val.Gate
public import proofs.«01_k».proof.Proof.Val.Out
public import proofs.«01_k».proof.Proof.Val.Ref
public import Idealize.ShloMosaic.Lib.Pointwise.Sums
public import Idealize.ShloMosaic.Lib.Layout
public import Idealize.ShloMosaic.Lib.LayoutAt

@[expose] public section

set_option maxRecDepth 16384

noncomputable section

namespace Cert.KernelIdeal.Moe

open Idealize.ShloMosaic Idealize.ShloMosaic.TcCoe
open Cert.KernelIdeal Cert.KernelIdeal.Gen

/-- Summed over the devices and each device's eight experts is summed over the 32 experts. -/
theorem sum_experts (f : Fin 32 → EReal) : ∑ d : Dev nD, ∑ j : Fin 8, f (expertOf d j) = ∑ e, f e := by
  rw [Fin.sum_univ_tiles 4 8 (by decide) f]
  refine Finset.sum_congr rfl fun d _ => Finset.sum_congr rfl fun j _ => congrArg f (Fin.ext ?_)
  show 8 * d.val + j.val = d.val * 8 + j.val
  omega

/-- The kernel's result for a token with finite scores s, experts p and q in range, and the experts' matrices W at column h. -/
theorem out_apply (I : Inp Ideal) (c : Dev nD) (i : Fin 2048) (h : Fin 1024) (p q : Fin 32) (s : Fin 32 → ℝ) (W : Fin 32 → Fin 512 → EReal)
    (hp : I.ix c (ix2 i 0) = BitVec.ofNat 32 p.val) (hq : I.ix c (ix2 i 1) = BitVec.ofNat 32 q.val)
    (hs : ∀ e, ∑ k, I.x c (ix2 i k) * I.rw c (ix2 k e) = ((s e : ℝ) : EReal))
    (hW : ∀ d j k, I.ew d (ix2 (rowOf j k) h) = W (expertOf d j) k) :
    I.out c (ix2 i h) = ((Cert.Moe.share (s p) (s q) : ℝ) : EReal) * (∑ k : Fin 512, I.x c (ix2 i k) * W p k)
      + ((Cert.Moe.share (s q) (s p) : ℝ) : EReal) * ∑ k : Fin 512, I.x c (ix2 i k) * W q k := by
  rw [out_add]
  unfold Inp.add part
  simp only [gate_apply I c i _ p q s hp hq hs, hW]
  rw [sum_experts fun e => ∑ k : Fin 512, (I.x c (ix2 i k)
    * ((Cert.Moe.gateOf p q (Cert.Moe.share (s p) (s q)) (Cert.Moe.share (s q) (s p)) e : ℝ) : EReal)) * W e k]
  exact Cert.Moe.gated_sum p q _ _ (Cert.Moe.share_nonneg _ _) (Cert.Moe.share_nonneg _ _) _ W

/-- Row i of device c's blocks in the whole arrays. -/
def rowAt (c : Dev nD) (i : Fin 2048) : Fin 8192 := ⟨2048 * c.val + i.val, by have := c.isLt; have := i.isLt; simp only [nD] at *; omega⟩

/-- The equation, from what the blocks hold: rows of the tokens and of the chosen experts, the whole router, eight matrices each. -/
theorem out_eq (I : Inp Ideal) (x : Vec Ideal Cert.ReferenceIdeal.S8192x512 .bf16) (r : Vec Ideal S512x32 .bf16) (ix : Vec Ideal Cert.ReferenceIdeal.S8192x2 .i32)
    (W : Vec Ideal Cert.ReferenceIdeal.S32x512x1024 .bf16) (c : Dev nD)
    (hx : ∀ i k, I.x c (ix2 i k) = x (ix2 (rowAt c i) k)) (hr : I.rw c = r) (hi : ∀ i a, I.ix c (ix2 i a) = ix (ix2 (rowAt c i) a))
    (hW : ∀ d j k h, I.ew d (ix2 (rowOf j k) h) = W (ix3 (expertOf d j) k h))
    (fx : ∀ i k, I.x c (ix2 i k) ≠ ⊤ ∧ I.x c (ix2 i k) ≠ ⊥) (fr : ∀ k e, I.rw c (ix2 k e) ≠ ⊤ ∧ I.rw c (ix2 k e) ≠ ⊥)
    (fi : ∀ i a, ∃ p : Fin 32, I.ix c (ix2 i a) = BitVec.ofNat 32 p.val) (i : Fin 2048) (h : Fin 1024) :
    I.out c (ix2 i h) = Cert.ReferenceIdeal.Moe.res x r ix W (ix2 (rowAt c i) h) := by
  obtain ⟨p, hp⟩ := fi i 0
  obtain ⟨q, hq⟩ := fi i 1
  have hsc : ∀ e, ∃ s : ℝ, ∑ k, I.x c (ix2 i k) * I.rw c (ix2 k e) = (s : EReal) := fun e => Cert.Moe.dot_real _ _ (fun k => fx i k) (fun k => fr k e)
  choose s hs using hsc
  rw [out_apply I c i h p q s (fun e k => W (ix3 e k h)) hp hq hs (fun d j k => hW d j k h)]
  rw [Cert.ReferenceIdeal.Moe.res_apply x r ix W (rowAt c i) h p q s (by rw [← hi, hp]) (by rw [← hi, hq])
    (by intro e; rw [← hs e, hr]; exact Finset.sum_congr rfl fun k _ => by rw [hx])]
  simp only [hx]

end Cert.KernelIdeal.Moe
-- ==== Proof.Val.Pre.lean ====
/-
What the precondition says of one device's blocks: the tokens and the router are finite, and every chosen expert is one of the 32.
-/
module

public import proofs.«01_k».proof.Pre_routed_and_finite_KernelIdeal
public import Idealize.ShloMosaic.Lib.ReduceAll
public import Idealize.ShloMosaic.Lib.Pointwise
public import Idealize.ShloMosaic.Lib.Pointwise.IndexBridge
public import Idealize.ShloMosaic.Lib.StableHlo.Predicate

@[expose] public section

noncomputable section

namespace Cert.Moe

open Idealize.ShloMosaic
open Cert.Pre_routed_and_finite_KernelIdeal

/-- The shape relations of the precondition's operations. -/
theorem preFacts : Cert.Pre_routed_and_finite_KernelIdeal.Facts where
  bitsLt_bf16_f32 := by decide
  bcast_S_S2048x512 := by decide
  reducesTo_S2048x512_S_d0_1 := by decide
  h_S_ := by decide
  bcast_S_S512x32 := by decide
  reducesTo_S512x32_S_d0_1 := by decide
  bcast_S_S2048x2 := by decide
  reducesTo_S2048x2_S_d0_1 := by decide

/-- The word of plus infinity. -/
theorem posInf : Ideal.ofBits .f32 0x7F800000#32 = (⊤ : EReal) := by simp [Ideal.ofBits, Ideal.ieee]

/-- An absolute value below plus infinity is that of a finite number. -/
theorem finite_of_abs (x : EReal) (h : Ideal.cmp .olt (max x (-x)) ⊤ = 1#1) : x ≠ ⊤ ∧ x ≠ ⊥ := by
  constructor <;> rintro rfl <;> simp [Ideal.cmp] at h

/-- A word between 0 and 31 is one of the 32 positions. -/
theorem word_range (w : BitVec 32) (h : IntOp.andi (IntOp.cmpi CmpIPredicate.sge w 0#32) (IntOp.cmpi CmpIPredicate.slt w 32#32) = 1#1) :
    ∃ p : Fin 32, w = BitVec.ofNat 32 p.val := by
  obtain ⟨h0, h1⟩ := IntOp.andi_eq_one.1 h
  unfold IntOp.cmpi at h0 h1
  have h0' : (0 : BitVec 32).sle w = true := (StableHlo.Predicate.ofBool_eq_one_iff _).1 h0
  have h1' : w.slt 32#32 = true := (StableHlo.Predicate.ofBool_eq_one_iff _).1 h1
  rw [BitVec.sle_iff_toInt_le] at h0'
  rw [BitVec.slt_iff_toInt_lt] at h1'
  have e0 : (0 : BitVec 32).toInt = 0 := by decide
  have e1 : (32#32 : BitVec 32).toInt = 32 := by decide
  have ew := BitVec.toInt_eq_toNat_cond w
  have hw := w.isLt
  refine ⟨⟨w.toNat, ?_⟩, ?_⟩
  · split at ew <;> omega
  · simp

variable [Cert.Pre_routed_and_finite_KernelIdeal.Facts]

instance : Subsingleton S_.Idx := ⟨fun a b => funext fun k => k.elim0⟩

/-- Where the printed precondition holds, the tokens and the router are finite and the chosen experts are among the 32. -/
theorem pre_decode (x : FVec Ideal S2048x512 .bf16) (r : FVec Ideal S512x32 .bf16) (ix : IVec S2048x2 32) (ew : FVec Ideal S8x512x1024 .bf16)
    (h : fn (F := Ideal) x r ix ew = fun _ => 1#1) :
    (∀ i k, x (ix2 i k) ≠ ⊤ ∧ x (ix2 i k) ≠ ⊥) ∧ (∀ k e, r (ix2 k e) ≠ ⊤ ∧ r (ix2 k e) ≠ ⊥)
      ∧ ∀ i a, ∃ p : Fin 32, ix (ix2 i a) = BitVec.ofNat 32 p.val := by
  have h0 := congrFun h ix0
  unfold fn fn_part1 at h0
  obtain ⟨h1, h2⟩ := IntOp.andi_eq_one.1 h0
  obtain ⟨h3, h4⟩ := IntOp.andi_eq_one.1 h1
  refine ⟨fun i k => ?_, fun k e => ?_, fun i a => ?_⟩
  · have := Host.reduce_andi_all _ _ _ _ _ h3 (ix2 i k)
    apply finite_of_abs
    rw [← posInf]
    exact this
  · have := Host.reduce_andi_all _ _ _ _ _ h4 (ix2 k e)
    apply finite_of_abs
    rw [← posInf]
    exact this
  · exact word_range _ (Host.reduce_andi_all _ _ _ _ _ h2 (ix2 i a))

end Cert.Moe
-- ==== Proof.Val.Blocks.lean ====
/-
From the equation to memories: the kernel's result on each device is its block of the reference's result, when each device starts from its
blocks of the reference's arguments and the precondition holds of them.
-/
module

public import proofs.«01_k».proof.Proof.Val.Eq
public import proofs.«01_k».proof.Proof.Val.Pre
public import proofs.«01_k».proof.Proof.KI.Region
public import Idealize.ShloMosaic.Lib.StableHlo.Run

@[expose] public section

set_option maxRecDepth 16384

noncomputable section

namespace Cert.KernelIdeal.Moe

open Idealize.ShloMosaic Idealize.ShloMosaic.TcCoe
open Cert.KernelIdeal Cert.KernelIdeal.Gen

variable (m : (ℓ : Loc nD τ sig) → Buf (Elt Ideal) ℓ)

/-- Rows of a device's block are rows of the whole array. -/
theorem block_rows {α : Type} {n : ℕ} (c : Fin 4) (v : (⟨2, ![8192, n]⟩ : Shape).Idx → α)
    (ht : Layout.Tiles ⟨2, ![2048, n]⟩ ⟨2, ![8192, n]⟩ 0 4) (i : Fin 2048) (k : Fin n) :
    Layout.block ⟨2, ![2048, n]⟩ ⟨2, ![8192, n]⟩ 0 4 c v ht (ix2 i k) = v (ix2 (rowAt c i) k) := by
  rw [Layout.block_apply]
  refine congrArg v (funext fun b => Fin.ext ?_)
  match b with
  | ⟨0, _⟩ => show c.val * 2048 + i.val = 2048 * c.val + i.val; omega
  | ⟨1, _⟩ => rfl

/-- Matrix j of a device's block is matrix 8 c + j of the whole array. -/
theorem block_mats {α : Type} (c : Fin 4) (v : (⟨3, ![32, 512, 1024]⟩ : Shape).Idx → α)
    (ht : Layout.Tiles ⟨3, ![8, 512, 1024]⟩ ⟨3, ![32, 512, 1024]⟩ 0 4) (j : Fin 8) (k : Fin 512) (h : Fin 1024) :
    Layout.block ⟨3, ![8, 512, 1024]⟩ ⟨3, ![32, 512, 1024]⟩ 0 4 c v ht (ix3 j k h) = v (ix3 (expertOf c j) k h) := by
  rw [Layout.block_apply]
  refine congrArg v (funext fun b => Fin.ext ?_)
  match b with
  | ⟨0, _⟩ => show c.val * 8 + j.val = 8 * c.val + j.val; omega
  | ⟨1, _⟩ => rfl
  | ⟨2, _⟩ => rfl

/-- The kernel is entered with the experts' matrices one above the other. -/
theorem ew_apply (c : Dev nD) (j : Fin 8) (k : Fin 512) (h : Fin 1024) :
    (inp m).ew c (ix2 (rowOf j k) h) = (m ((c : Thread nD τ).loc main_arg3) : Vec Ideal S8x512x1024 .bf16) (ix3 j k h) := by
  have e : (inp m).ew c = shapeCast S4096x1024 (m ((c : Thread nD τ).loc main_arg3) : Vec Ideal S8x512x1024 .bf16) shapeCasts_S8x512x1024_S4096x1024 := by
    show StableHlo.after hostOps0 (fun b => m (c, b)) main_v1 = _
    after_results
    rfl
  rw [e]
  refine shapeCast_apply _ _ _ _ ?_
  show (S8x512x1024.rowMajor (ix3 j k h)).val = (S4096x1024.rowMajor (ix2 (rowOf j k) h)).val
  rw [Shape.rowMajor_val_two, Shape.rowMajor_val_three]
  show (j.val * 512 + k.val) * 1024 + h.val = (512 * j.val + k.val) * 1024 + h.val
  omega

/-- The equation of the two programs' results, block by block. -/
theorem out_block [Cert.Pre_routed_and_finite_KernelIdeal.Facts]
    (x : Vec Ideal Cert.ReferenceIdeal.S8192x512 .bf16) (r : Vec Ideal S512x32 .bf16) (ix : Vec Ideal Cert.ReferenceIdeal.S8192x2 .i32)
    (W : Vec Ideal Cert.ReferenceIdeal.S32x512x1024 .bf16)
    (hpre : ∀ c : Dev nD, Cert.Pre_routed_and_finite_KernelIdeal.fn (F := Ideal) (m ((c : Thread nD τ).loc main_arg0)) (m ((c : Thread nD τ).loc main_arg1))
      (m ((c : Thread nD τ).loc main_arg2)) (m ((c : Thread nD τ).loc main_arg3)) = fun _ => 1#1)
    (h0 : ∀ c : Dev nD, m ((c : Thread nD τ).loc main_arg0) = Layout.block ⟨2, ![2048, 512]⟩ ⟨2, ![8192, 512]⟩ 0 4 c x)
    (h1 : ∀ c : Dev nD, m ((c : Thread nD τ).loc main_arg1) = r)
    (h2 : ∀ c : Dev nD, m ((c : Thread nD τ).loc main_arg2) = Layout.block ⟨2, ![2048, 2]⟩ ⟨2, ![8192, 2]⟩ 0 4 c ix)
    (h3 : ∀ c : Dev nD, m ((c : Thread nD τ).loc main_arg3) = Layout.block ⟨3, ![8, 512, 1024]⟩ ⟨3, ![32, 512, 1024]⟩ 0 4 c W) (c : Dev nD) :
    (inp m).out c = Layout.block ⟨2, ![2048, 1024]⟩ ⟨2, ![8192, 1024]⟩ 0 4 c (Cert.ReferenceIdeal.Moe.res x r ix W) := by
  have hx : (inp m).x c = m ((c : Thread nD τ).loc main_arg0) := V_main_arg0 m c
  have hr : (inp m).rw c = m ((c : Thread nD τ).loc main_arg1) := V_main_arg1 m c
  have hi : (inp m).ix c = m ((c : Thread nD τ).loc main_arg2) := V_main_arg2 m c
  obtain ⟨fx, fr, fi⟩ := Cert.Moe.pre_decode _ _ _ _ (hpre c)
  funext i
  obtain ⟨a, b, rfl⟩ : ∃ (a : Fin 2048) (b : Fin 1024), i = ix2 a b := ⟨i 0, i 1, funext fun k => by match k with | ⟨0, _⟩ => rfl | ⟨1, _⟩ => rfl⟩
  rw [block_rows]
  refine out_eq (inp m) x r ix W c (fun i k => ?_) (hr.trans (h1 c)) (fun i a => ?_) (fun d j k h => ?_) (fun i k => ?_) (fun k e => ?_) (fun i a => ?_) a b
  · rw [hx, h0 c, block_rows]
  · rw [hi, h2 c, block_rows]
  · rw [ew_apply, h3 d, block_mats]
  · rw [hx]; exact fx i k
  · rw [hr]; exact fr k e
  · rw [hi]; exact fi i a

end Cert.KernelIdeal.Moe
-- ==== Proof.lean ====
/- The proof of the certificate's claims: the kernel's two runs (`K.Launch`, `KI.Launch`) give its frames,
   the reference's generated run gives its frame, and the value module gives the equation of the two results. -/
module

public import proofs.«01_k».proof.Defs
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Blocks
public import Idealize.ShloMosaic.Adequacy
public import Idealize.ShloMosaic.Init

@[expose] public section

noncomputable section

namespace Cert.Proof

open Idealize.ShloMosaic Idealize.SL.Sem

/-- The kernel in its own format runs to the end, leaves its arguments as they were and every counter at zero. -/
theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1⟩, h.2⟩)
    (Cert.Kernel.Moe.run_main (F := Bits) m ρ)

/-- The same of the kernel over the extended reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Moe.run_main (F := Ideal) m ρ)

/-- The reference declares no counter; its run leaves its arguments as they were. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The shape relations of the two forms of the precondition. -/
theorem preFacts : Cert.Pre_routed_and_finite_KernelIdeal.Facts := Cert.Moe.preFacts

theorem preFactsReference : Cert.Pre_routed_and_finite_ReferenceIdeal.Facts where
  bitsLt_bf16_f32 := by decide
  bcast_S_S8192x512 := by decide
  reducesTo_S8192x512_S_d0_1 := by decide
  h_S_ := by decide
  bcast_S_S512x32 := by decide
  reducesTo_S512x32_S_d0_1 := by decide
  bcast_S_S8192x2 := by decide
  reducesTo_S8192x2_S_d0_1 := by decide

/-- The two frames over the extended reals hold in particular where the precondition does. -/
theorem frame_kernelIdeal_pre : Cert.quiescent_KernelIdeal_pre_routed_and_finite_KernelIdeal (hPre_routed_and_finite_KernelIdeal := preFacts) :=
  fun m ρ _ => frame_kernelIdeal m ρ trivial

theorem frame_referenceIdeal_pre : Cert.quiescent_ReferenceIdeal_pre_routed_and_finite_ReferenceIdeal (hPre_routed_and_finite_ReferenceIdeal := preFactsReference) :=
  fun m ρ _ => frame_referenceIdeal m ρ trivial

/-- Over the extended reals each device's result of the kernel is its block of the reference's result. -/
theorem algebraic : Cert.algebraic_KernelIdeal_ReferenceIdeal_pre_routed_and_finite_KernelIdeal (hPre_routed_and_finite_KernelIdeal := preFacts) := by
  haveI := preFacts
  intro m g m' g' hpre hin
  refine ⟨Cert.ReferenceIdeal.Value.res_out0 m' 0, ?_, ?_⟩
  · refine (θ_run Cert.KernelIdeal.defs _ _).mono (fun r h c => ⟨?_, (h.1 c).1, (h.1 c).2.1, (h.1 c).2.2.1, (h.1 c).2.2.2.1⟩)
      (Cert.KernelIdeal.Moe.run_main (F := Ideal) m g)
    rw [Cert.ReferenceIdeal.Moe.res_out0_eq]
    exact (h.1 c).2.2.2.2.trans (Cert.KernelIdeal.Moe.out_block m _ _ _ _ hpre (fun c => (hin c).1) (fun c => (hin c).2.1)
      (fun c => (hin c).2.2.1) (fun c => (hin c).2.2.2) c)
  · exact (θ_run Cert.ReferenceIdeal.defs _ _).mono (fun r h => h 0) (Cert.ReferenceIdeal.Value.run (F := Ideal) m' g')

/-- Everything the certificate claims. -/
theorem claim : Cert.Claim := ⟨Cert.Kernel.Gen.facts, Cert.KernelIdeal.Gen.facts, Cert.ReferenceIdeal.Gen.facts,
  preFacts, preFactsReference,
  frame_kernel, frame_kernelIdeal, frame_kernelIdeal_pre, frame_referenceIdeal, frame_referenceIdeal_pre, trivial, algebraic⟩

end Cert.Proof

end
